-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_slope" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)) (v11 : (c : Dev Cert.KernelIdeal.nD) → Buf (Elt Ideal) ((c.tc : Thread Cert.KernelIdeal.nD Cert.KernelIdeal.τ).loc Cert.KernelIdeal.main_v0_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_v0_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v186) = v2 c
          ∧ r.2.mem ((c.tc : Thread Cert.ReferenceIdeal.nD Cert.ReferenceIdeal.τ).loc Cert.ReferenceIdeal.main_v187) = v3 c
          ∧ r.2.mem ((c.tc : Thread Cert.ReferenceIdeal.nD Cert.ReferenceIdeal.τ).loc Cert.ReferenceIdeal.main_v188) = v4 c
          ∧ r.2.mem ((c.tc : Thread Cert.ReferenceIdeal.nD Cert.ReferenceIdeal.τ).loc Cert.ReferenceIdeal.main_v138) = v5 c
          ∧ r.2.mem ((c.tc : Thread Cert.ReferenceIdeal.nD Cert.ReferenceIdeal.τ).loc Cert.ReferenceIdeal.main_v131) = v6 c
          ∧ r.2.mem ((c.tc : Thread Cert.ReferenceIdeal.nD Cert.ReferenceIdeal.τ).loc Cert.ReferenceIdeal.main_v149) = v7 c
          ∧ r.2.mem ((c.tc : Thread Cert.ReferenceIdeal.nD Cert.ReferenceIdeal.τ).loc Cert.ReferenceIdeal.main_v189) = v8 c
          ∧ r.2.mem ((c.tc : Thread Cert.ReferenceIdeal.nD Cert.ReferenceIdeal.τ).loc Cert.ReferenceIdeal.main_v113) = v9 c
          ∧ r.2.mem ((c.tc : Thread Cert.ReferenceIdeal.nD Cert.ReferenceIdeal.τ).loc Cert.ReferenceIdeal.main_v147) = v10 c
          ∧ r.2.mem ((c.tc : Thread Cert.ReferenceIdeal.nD Cert.ReferenceIdeal.τ).loc Cert.ReferenceIdeal.main_v191) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_v96) = v1 c
          ∧ r.2.mem ((c.tc : Thread Cert.Reference2Ideal.nD Cert.Reference2Ideal.τ).loc Cert.Reference2Ideal.main_v97) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4096x1024 : Shape := ⟨2, ![4096, 1024]⟩
abbrev S4096x512 : Shape := ⟨2, ![4096, 512]⟩
abbrev S4096x3072 : Shape := ⟨2, ![4096, 3072]⟩
abbrev S1x1024 : Shape := ⟨2, ![1, 1024]⟩
abbrev S1x512 : Shape := ⟨2, ![1, 512]⟩
abbrev S8x512 : Shape := ⟨2, ![8, 512]⟩
abbrev S512x512 : Shape := ⟨2, ![512, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x3072 : S_.BroadcastsInDim S4096x3072 (![] : Fin 0 → Fin S4096x3072.rank)
  bcast_S_S1x1024 : S_.BroadcastsInDim S1x1024 (![] : Fin 0 → Fin S1x1024.rank)
  bcast_S_S1x512 : S_.BroadcastsInDim S1x512 (![] : Fin 0 → Fin S1x512.rank)
  bcast_S_S8x512 : S_.BroadcastsInDim S8x512 (![] : Fin 0 → Fin S8x512.rank)
  bitsLt_bf16_f32 : FTy.bits .bf16 < FTy.bits .f32
  bcast_S_S512x512 : S_.BroadcastsInDim S512x512 (![] : Fin 0 → Fin S512x512.rank)
  bcast_S_S1024x1024 : S_.BroadcastsInDim S1024x1024 (![] : Fin 0 → Fin S1024x1024.rank)

variable [Facts]

def fn_part1 {F : FTy → Type} [FloatOps F] (main_arg6 : FVec F S8x512 .f32) (main_arg7 : FVec F S512x512 .bf16) (main_arg8 : FVec F S1024x1024 .bf16) (main_v2 : IVec S4096x1024 1) (main_v5 : IVec S4096x1024 1) (main_v8 : IVec S4096x512 1) (main_v11 : IVec S4096x3072 1) (main_v14 : IVec S1x1024 1) (main_v17 : IVec S1x512 1) : IVec S4096x1024 1 × IVec S4096x1024 1 × IVec S4096x512 1 × IVec S4096x3072 1 × IVec S1x1024 1 × IVec S1x512 1 × IVec S8x512 1 × IVec S512x512 1 × IVec S1024x1024 1 :=
  let main_v18 : FVec F S8x512 .f32 := Host.absf main_arg6
  let main_cst_5 : FVec F S_ .f32 := constant S_ .f32 0x7F800000#32
  let main_v19 : FVec F S8x512 .f32 := broadcastInDim S8x512 ![] bcast_S_S8x512 main_cst_5
  let main_v20 : IVec S8x512 1 := cmpf .olt main_v18 main_v19
  let main_v21 : FVec F S512x512 .f32 := (extf .f32 · bitsLt_bf16_f32) main_arg7
  let main_v22 : FVec F S512x512 .f32 := Host.absf main_v21
  let main_cst_6 : FVec F S_ .f32 := constant S_ .f32 0x7F800000#32
  let main_v23 : FVec F S512x512 .f32 := broadcastInDim S512x512 ![] bcast_S_S512x512 main_cst_6
  let main_v24 : IVec S512x512 1 := cmpf .olt main_v22 main_v23
  let main_v25 : FVec F S1024x1024 .f32 := (extf .f32 · bitsLt_bf16_f32) main_arg8
  let main_v26 : FVec F S1024x1024 .f32 := Host.absf main_v25
  let main_cst_7 : FVec F S_ .f32 := constant S_ .f32 0x7F800000#32
  let main_v27 : FVec F S1024x1024 .f32 := broadcastInDim S1024x1024 ![] bcast_S_S1024x1024 main_cst_7
  let main_v28 : IVec S1024x1024 1 := cmpf .olt main_v26 main_v27
  (main_v2, main_v5, main_v8, main_v11, main_v14, main_v17, main_v20, main_v24, main_v28)

def fn {F : FTy → Type} [FloatOps F] (main_arg0 : FVec F S4096x1024 .f32) (main_arg1 : FVec F S4096x1024 .f32) (main_arg2 : FVec F S4096x512 .f32) (main_arg3 : FVec F S4096x3072 .f32) (main_arg4 : FVec F S1x1024 .f32) (main_arg5 : FVec F S1x512 .f32) (main_arg6 : FVec F S8x512 .f32) (main_arg7 : FVec F S512x512 .bf16) (main_arg8 : FVec F S1024x1024 .bf16) : IVec S4096x1024 1 × IVec S4096x1024 1 × IVec S4096x512 1 × IVec S4096x3072 1 × IVec S1x1024 1 × IVec S1x512 1 × IVec S8x512 1 × IVec S512x512 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x3072 .f32 := Host.absf main_arg3
  let main_cst_2 : FVec F S_ .f32 := constant S_ .f32 0x7F800000#32
  let main_v10 : FVec F S4096x3072 .f32 := broadcastInDim S4096x3072 ![] bcast_S_S4096x3072 main_cst_2
  let main_v11 : IVec S4096x3072 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_v2 main_v5 main_v8 main_v11 main_v14 main_v17
-- ==== Kernel.lean ====
abbrev S4096x1024 : Shape := ⟨2, ![4096, 1024]⟩
abbrev S4096x512 : Shape := ⟨2, ![4096, 512]⟩
abbrev S4096x3072 : Shape := ⟨2, ![4096, 3072]⟩
abbrev S1x1024 : Shape := ⟨2, ![1, 1024]⟩
abbrev S1x512 : Shape := ⟨2, ![1, 512]⟩
abbrev S8x512 : Shape := ⟨2, ![8, 512]⟩
abbrev S512x512 : Shape := ⟨2, ![512, 512]⟩
abbrev S1024x1024 : Shape := ⟨2, ![1024, 1024]⟩
abbrev S8x128 : Shape := ⟨2, ![8, 128]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩
abbrev S512 : Shape := ⟨1, ![512]⟩

abbrev nBuf : Space → Nat
  | .hbm => 21
  | .vmem => 43
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x3072, .f32⟩
  | .hbm, ⟨4, _⟩ => ⟨S1x1024, .f32⟩
  | .hbm, ⟨5, _⟩ => ⟨S1x512, .f32⟩
  | .hbm, ⟨6, _⟩ => ⟨S8x512, .f32⟩
  | .hbm, ⟨7, _⟩ => ⟨S512x512, .bf16⟩
  | .hbm, ⟨8, _⟩ => ⟨S1024x1024, .bf16⟩
  | .hbm, ⟨9, _⟩ => ⟨S4096x1024, .f32⟩
  | .hbm, ⟨10, _⟩ => ⟨S4096x512, .f32⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .f32⟩
  | .hbm, ⟨15, _⟩ => ⟨S1024x1024, .f32⟩
  | .hbm, ⟨16, _⟩ => ⟨S512x512, .f32⟩
  | .hbm, ⟨17, _⟩ => ⟨S8x128, .f32⟩
  | .hbm, ⟨18, _⟩ => ⟨S1x1024, .f32⟩
  | .hbm, ⟨19, _⟩ => ⟨S1x512, .f32⟩
  | .hbm, ⟨20, _⟩ => ⟨S8x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S1x1024, .f32⟩
  | .local _ .vmem, ⟨21, _⟩ => ⟨S1x512, .f32⟩
  | .local _ .vmem, ⟨22, _⟩ => ⟨S8x512, .f32⟩
  | .local _ .vmem, ⟨23, _⟩ => ⟨S512x512, .bf16⟩
  | .local _ .vmem, ⟨24, _⟩ => ⟨S1024x1024, .bf16⟩
  | .local _ .vmem, ⟨25, _⟩ => ⟨S256x1024, .f32⟩
  | .local _ .vmem, ⟨26, _⟩ => ⟨S256x1024, .f32⟩
  | .local _ .vmem, ⟨27, _⟩ => ⟨S256x512, .f32⟩
  | .local _ .vmem, ⟨28, _⟩ => ⟨S256x512, .f32⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .f32⟩
  | .local _ .vmem, ⟨36, _⟩ => ⟨S256x512, .f32⟩
  | .local _ .vmem, ⟨37, _⟩ => ⟨S1024x1024, .f32⟩
  | .local _ .vmem, ⟨38, _⟩ => ⟨S512x512, .f32⟩
  | .local _ .vmem, ⟨39, _⟩ => ⟨S8x128, .f32⟩
  | .local _ .vmem, ⟨40, _⟩ => ⟨S1x1024, .f32⟩
  | .local _ .vmem, ⟨41, _⟩ => ⟨S1x512, .f32⟩
  | .local _ .vmem, ⟨42, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_v0_10 : Ref sig .tc := ⟨.hbm, 19, rfl⟩
abbrev main_v0_11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_stg25_0 : Ref sig .tc := ⟨.vmem, 41, rfl⟩
abbrev cc0_stg26_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem22_0 : DmaSem sig := 38
abbrev cc0_sem23_0 : DmaSem sig := 39
abbrev cc0_sem24_0 : DmaSem sig := 40
abbrev cc0_sem25_0 : DmaSem sig := 41
abbrev cc0_sem26_0 : DmaSem sig := 42

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== ReferenceIdeal.lean ====
abbrev S4096x1024 : Shape := ⟨2, ![4096, 1024]⟩
abbrev S4096x512 : Shape := ⟨2, ![4096, 512]⟩
abbrev S4096x3072 : Shape := ⟨2, ![4096, 3072]⟩
abbrev S1x1024 : Shape := ⟨2, ![1, 1024]⟩
abbrev S1x512 : Shape := ⟨2, ![1, 512]⟩
abbrev S8x512 : Shape := ⟨2, ![8, 512]⟩
abbrev S512x512 : Shape := ⟨2, ![512, 512]⟩
abbrev S1024x1024 : Shape := ⟨2, ![1024, 1024]⟩
abbrev S3x512 : Shape := ⟨2, ![3, 512]⟩
abbrev S2x2048x512 : Shape := ⟨3, ![2, 2048, 512]⟩
abbrev S_ : Shape := ⟨0, ![]⟩
abbrev S2x2x512 : Shape := ⟨3, ![2, 2, 512]⟩
abbrev S2x2050x512 : Shape := ⟨3, ![2, 2050, 512]⟩
abbrev S512 : Shape := ⟨1, ![512]⟩
abbrev S4096 : Shape := ⟨1, ![4096]⟩
abbrev S4096x1 : Shape := ⟨2, ![4096, 1]⟩
abbrev S1024 : Shape := ⟨1, ![1024]⟩
abbrev S8x128 : Shape := ⟨2, ![8, 128]⟩
abbrev S5x512 : Shape := ⟨2, ![5, 512]⟩

abbrev nBuf : Space → Nat
  | .hbm => 275
  | .vmem => 0
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S4096x3072, .f32⟩
  | 4 => ⟨S1x1024, .f32⟩
  | 5 => ⟨S1x512, .f32⟩
  | 6 => ⟨S8x512, .f32⟩
  | 7 => ⟨S512x512, .bf16⟩
  | 8 => ⟨S1024x1024, .bf16⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S3x512, .f32⟩
  | 15 => ⟨S4096x512, .f32⟩
  | 16 => ⟨S2x2048x512, .f32⟩
  | 17 => ⟨S_, .f32⟩
  | 18 => ⟨S2x2x512, .f32⟩
  | 19 => ⟨S2x2050x512, .f32⟩
  | 20 => ⟨S1x512, .f32⟩
  | 21 => ⟨S512, .f32⟩
  | 22 => ⟨S2x2048x512, .f32⟩
  | 23 => ⟨S4096x512, .f32⟩
  | 24 => ⟨S1x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S1x512, .f32⟩
  | 31 => ⟨S512, .f32⟩
  | 32 => ⟨S2x2048x512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S2x2048x512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S512x512, .f32⟩
  | 47 => ⟨S1024x1024, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S_, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S_, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S4096x512, .f32⟩
  | 122 => ⟨S4096x512, .f32⟩
  | 123 => ⟨S4096x512, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S4096x1, .f32⟩
  | 10 => ⟨S4096x1, .f32⟩
  | 11 => ⟨S_, .f32⟩
  | 12 => ⟨S4096x1, .f32⟩
  | 13 => ⟨S4096x1, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096, .f32⟩
  | 25 => ⟨S_, .f32⟩
  | 26 => ⟨S4096, .f32⟩
  | 27 => ⟨S4096, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4096, .f32⟩
  | 36 => ⟨S_, .f32⟩
  | 37 => ⟨S4096, .f32⟩
  | 38 => ⟨S4096, .f32⟩
  | 39 => ⟨S4096x1024, .f32⟩
  | 40 => ⟨S4096x1024, .f32⟩
  | 41 => ⟨S4096x1024, .f32⟩
  | 42 => ⟨S_, .f32⟩
  | 43 => ⟨S1024, .f32⟩
  | 44 => ⟨S1x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S4096x1024, .f32⟩
  | 52 => ⟨S4096x1024, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S1024x1024, .f32⟩
  | 65 => ⟨S1024x1024, .f32⟩
  | 66 => ⟨S4096x1024, .f32⟩
  | 67 => ⟨S4096x512, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S_, .f32⟩
  | 87 => ⟨S512, .f32⟩
  | 88 => ⟨S1x512, .f32⟩
  | 89 => ⟨S512x512, .f32⟩
  | 90 => ⟨S512x512, .f32⟩
  | 91 => ⟨S4096x512, .f32⟩
  | 92 => ⟨S4096x512, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S4096x512, .f32⟩
  | 99 => ⟨S_, .f32⟩
  | 100 => ⟨S4096x512, .f32⟩
  | 101 => ⟨S4096x512, .f32⟩
  | 102 => ⟨S4096x512, .f32⟩
  | 103 => ⟨S_, .f32⟩
  | 104 => ⟨S4096x512, .f32⟩
  | 105 => ⟨S4096x512, .f32⟩
  | 106 => ⟨S_, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S_, .f32⟩
  | 113 => ⟨S512, .f32⟩
  | 114 => ⟨S1x512, .f32⟩
  | 115 => ⟨S_, .f32⟩
  | 116 => ⟨S512, .f32⟩
  | 117 => ⟨S1x512, .f32⟩
  | 118 => ⟨S_, .f32⟩
  | 119 => ⟨S3x512, .f32⟩
  | 120 => ⟨S4096x512, .f32⟩
  | 121 => ⟨S_, .f32⟩
  | 122 => ⟨S512, .f32⟩
  | 123 => ⟨S1x512, .f32⟩
  | 124 => ⟨S_, .f32⟩
  | 125 => ⟨S512, .f32⟩
  | 126 => ⟨S1x512, .f32⟩
  | 127 => ⟨S_, .f32⟩
  | _ => ⟨S4096x1024, .f32⟩

abbrev hbmTy0_2 (i : Nat) : BufTy := match i % 128 with
  | 0 => ⟨S3x512, .f32⟩
  | 1 => ⟨S3x512, .f32⟩
  | 2 => ⟨S4096x512, .f32⟩
  | 3 => ⟨S_, .f32⟩
  | 4 => ⟨S512, .f32⟩
  | 5 => ⟨S1x512, .f32⟩
  | 6 => ⟨S_, .f32⟩
  | 7 => ⟨S512, .f32⟩
  | 8 => ⟨S1x512, .f32⟩
  | 9 => ⟨S_, .f32⟩
  | 10 => ⟨S3x512, .f32⟩
  | 11 => ⟨S3x512, .f32⟩
  | 12 => ⟨S4096x512, .bf16⟩
  | 13 => ⟨S4096x512, .bf16⟩
  | 14 => ⟨S4096x512, .bf16⟩
  | 15 => ⟨S8x128, .f32⟩
  | 16 => ⟨S_, .f32⟩
  | 17 => ⟨S5x512, .f32⟩
  | 18 => ⟨S8x512, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_v73_2 : Ref sig .tc := ⟨.hbm, 102, rfl⟩
abbrev main_call0_cst_1 : Ref sig .tc := ⟨.hbm, 103, rfl⟩
abbrev main_call0_v6 : Ref sig .tc := ⟨.hbm, 104, rfl⟩
abbrev main_call0_v7 : Ref sig .tc := ⟨.hbm, 105, rfl⟩
abbrev main_v73_1 : Ref sig .tc := ⟨.hbm, 106, rfl⟩
abbrev main_v73_0 : Ref sig .tc := ⟨.hbm, 107, rfl⟩
abbrev main_v74 : Ref sig .tc := ⟨.hbm, 108, rfl⟩
abbrev main_v75 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_v76_2 : Ref sig .tc := ⟨.hbm, 117, rfl⟩
abbrev main_call1_cst_1 : Ref sig .tc := ⟨.hbm, 118, rfl⟩
abbrev main_call1_v6 : Ref sig .tc := ⟨.hbm, 119, rfl⟩
abbrev main_call1_v7 : Ref sig .tc := ⟨.hbm, 120, rfl⟩
abbrev main_v76_1 : Ref sig .tc := ⟨.hbm, 121, rfl⟩
abbrev main_v76_0 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_12 : Ref sig .tc := ⟨.hbm, 128, rfl⟩
abbrev main_v82 : Ref sig .tc := ⟨.hbm, 129, rfl⟩
abbrev main_v83 : Ref sig .tc := ⟨.hbm, 130, rfl⟩
abbrev main_cst_13 : Ref sig .tc := ⟨.hbm, 131, rfl⟩
abbrev main_v84 : Ref sig .tc := ⟨.hbm, 132, rfl⟩
abbrev main_v85 : Ref sig .tc := ⟨.hbm, 133, rfl⟩
abbrev main_cst_14 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_15 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_16 : Ref sig .tc := ⟨.hbm, 148, rfl⟩
abbrev main_v98 : Ref sig .tc := ⟨.hbm, 149, rfl⟩
abbrev main_v99 : Ref sig .tc := ⟨.hbm, 150, rfl⟩
abbrev main_cst_17 : Ref sig .tc := ⟨.hbm, 151, rfl⟩
abbrev main_v100 : Ref sig .tc := ⟨.hbm, 152, rfl⟩
abbrev main_cst_18 : Ref sig .tc := ⟨.hbm, 153, rfl⟩
abbrev main_v101 : Ref sig .tc := ⟨.hbm, 154, rfl⟩
abbrev main_v102 : Ref sig .tc := ⟨.hbm, 155, rfl⟩
abbrev main_cst_19 : Ref sig .tc := ⟨.hbm, 156, rfl⟩
abbrev main_v103 : Ref sig .tc := ⟨.hbm, 157, rfl⟩
abbrev main_cst_20 : Ref sig .tc := ⟨.hbm, 158, rfl⟩
abbrev main_v104 : Ref sig .tc := ⟨.hbm, 159, rfl⟩
abbrev main_cst_21 : Ref sig .tc := ⟨.hbm, 160, rfl⟩
abbrev main_cst_22 : Ref sig .tc := ⟨.hbm, 161, rfl⟩
abbrev main_v105 : Ref sig .tc := ⟨.hbm, 162, rfl⟩
abbrev main_v106 : Ref sig .tc := ⟨.hbm, 163, rfl⟩
abbrev main_cst_23 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_24 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_25 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_26 : Ref sig .tc := ⟨.hbm, 182, rfl⟩
abbrev main_v122 : Ref sig .tc := ⟨.hbm, 183, rfl⟩
abbrev main_v123 : Ref sig .tc := ⟨.hbm, 184, rfl⟩
abbrev main_cst_27 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_call2_v0 : Ref sig .tc := ⟨.hbm, 199, rfl⟩
abbrev main_call2_v1 : Ref sig .tc := ⟨.hbm, 200, rfl⟩
abbrev main_call2_v2 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_call3_v0 : Ref sig .tc := ⟨.hbm, 207, rfl⟩
abbrev main_call3_v1 : Ref sig .tc := ⟨.hbm, 208, rfl⟩
abbrev main_call3_v2 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_28 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_cst_29 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_cst_30 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_cst_31 : Ref sig .tc := ⟨.hbm, 231, rfl⟩
abbrev main_v160 : Ref sig .tc := ⟨.hbm, 232, rfl⟩
abbrev main_v161 : Ref sig .tc := ⟨.hbm, 233, rfl⟩
abbrev main_cst_32 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_cst_33 : Ref sig .tc := ⟨.hbm, 240, rfl⟩
abbrev main_v167 : Ref sig .tc := ⟨.hbm, 241, rfl⟩
abbrev main_v168 : Ref sig .tc := ⟨.hbm, 242, rfl⟩
abbrev main_cst_34 : Ref sig .tc := ⟨.hbm, 243, rfl⟩
abbrev main_v169 : Ref sig .tc := ⟨.hbm, 244, rfl⟩
abbrev main_v170 : Ref sig .tc := ⟨.hbm, 245, rfl⟩
abbrev main_cst_35 : Ref sig .tc := ⟨.hbm, 246, rfl⟩
abbrev main_v171 : Ref sig .tc := ⟨.hbm, 247, rfl⟩
abbrev main_v172 : Ref sig .tc := ⟨.hbm, 248, rfl⟩
abbrev main_cst_36 : Ref sig .tc := ⟨.hbm, 249, rfl⟩
abbrev main_v173 : Ref sig .tc := ⟨.hbm, 250, rfl⟩
abbrev main_v174 : Ref sig .tc := ⟨.hbm, 251, rfl⟩
abbrev main_cst_37 : Ref sig .tc := ⟨.hbm, 252, rfl⟩
abbrev main_v175 : Ref sig .tc := ⟨.hbm, 253, rfl⟩
abbrev main_v176 : Ref sig .tc := ⟨.hbm, 254, rfl⟩
abbrev main_cst_38 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_cst_39 : Ref sig .tc := ⟨.hbm, 259, rfl⟩
abbrev main_v180 : Ref sig .tc := ⟨.hbm, 260, rfl⟩
abbrev main_v181 : Ref sig .tc := ⟨.hbm, 261, rfl⟩
abbrev main_cst_40 : Ref sig .tc := ⟨.hbm, 262, rfl⟩
abbrev main_v182 : Ref sig .tc := ⟨.hbm, 263, rfl⟩
abbrev main_v183 : Ref sig .tc := ⟨.hbm, 264, rfl⟩
abbrev main_cst_41 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_cst_42 : Ref sig .tc := ⟨.hbm, 272, rfl⟩
abbrev main_v190 : Ref sig .tc := ⟨.hbm, 273, rfl⟩
abbrev main_v191 : Ref sig .tc := ⟨.hbm, 274, rfl⟩

abbrev nD : Nat := 1
abbrev τ : Topo := Topo.v7x

variable {F : FTy → Type} [FloatOps F]
-- ==== Kernel2.lean ====
abbrev S4096x1024 : Shape := ⟨2, ![4096, 1024]⟩
abbrev S4096x512 : Shape := ⟨2, ![4096, 512]⟩
abbrev S4096x3072 : Shape := ⟨2, ![4096, 3072]⟩
abbrev S1x1024 : Shape := ⟨2, ![1, 1024]⟩
abbrev S8x512 : Shape := ⟨2, ![8, 512]⟩
abbrev S1024x3072 : Shape := ⟨2, ![1024, 3072]⟩
abbrev S8x1024 : Shape := ⟨2, ![8, 1024]⟩
abbrev S256x512 : Shape := ⟨2, ![256, 512]⟩
abbrev S256x1024 : Shape := ⟨2, ![256, 1024]⟩
abbrev S256x3072 : Shape := ⟨2, ![256, 3072]⟩
abbrev S3x256x1024 : Shape := ⟨3, ![3, 256, 1024]⟩
abbrev S3 : Shape := ⟨1, ![3]⟩
abbrev S1 : Shape := ⟨1, ![1]⟩
abbrev S_ : Shape := ⟨0, ![]⟩
abbrev S1x256x1024 : Shape := ⟨3, ![1, 256, 1024]⟩
abbrev S1x512 : Shape := ⟨2, ![1, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 14
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .bf16⟩
  | .hbm, ⟨4, _⟩ => ⟨S4096x512, .f32⟩
  | .hbm, ⟨5, _⟩ => ⟨S4096x3072, .f32⟩
  | .hbm, ⟨6, _⟩ => ⟨S4096x512, .bf16⟩
  | .hbm, ⟨7, _⟩ => ⟨S4096x512, .bf16⟩
  | .hbm, ⟨8, _⟩ => ⟨S1x1024, .f32⟩
  | .hbm, ⟨9, _⟩ => ⟨S8x512, .f32⟩
  | .hbm, ⟨10, _⟩ => ⟨S1024x3072, .bf16⟩
  | .hbm, ⟨11, _⟩ => ⟨S4096x1024, .f32⟩
  | .hbm, ⟨12, _⟩ => ⟨S4096x3072, .bf16⟩
  | .hbm, ⟨13, _⟩ => ⟨S8x1024, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S1x1024, .f32⟩
  | .local _ .vmem, ⟨17, _⟩ => ⟨S8x512, .f32⟩
  | .local _ .vmem, ⟨18, _⟩ => ⟨S1024x3072, .bf16⟩
  | .local _ .vmem, ⟨19, _⟩ => ⟨S256x1024, .f32⟩
  | .local _ .vmem, ⟨20, _⟩ => ⟨S256x1024, .f32⟩
  | .local _ .vmem, ⟨21, _⟩ => ⟨S256x3072, .bf16⟩
  | .local _ .vmem, ⟨22, _⟩ => ⟨S256x3072, .bf16⟩
  | .local _ .vmem, ⟨23, _⟩ => ⟨S8x1024, .f32⟩
  | .local _ .vmem, ⟨24, _⟩ => ⟨S3x256x1024, .f32⟩
  | .local _ .vmem, ⟨25, _⟩ => ⟨S3x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_100 : BitVec 32 := 0#32
  c0_i32_100
def k0_mult2 : BitVec 32 :=
  let c256_i32_111 : BitVec 32 := 256#32
  c256_i32_111
def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c3_i32_97 : BitVec 32 := 3#32
  let v188 : BitVec 32 := Scalar.addi arg0 c3_i32_97
  let c1_i32_98 : BitVec 32 := 1#32
  let v189 : BitVec 32 := Scalar.subi v188 c1_i32_98
  let c256_i32_105 : BitVec 32 := 256#32
  let v200 : BitVec 32 := Scalar.muli v189 c256_i32_105
  v200
def k0_off1 (i : grid0.Coords) : Fin 1 → Nat :=
  let arg0 : BitVec 32 := BitVec.ofNat 32 (i 0).val
  let c3_i32_97 : BitVec 32 := 3#32
  let v188 : BitVec 32 := Scalar.addi arg0 c3_i32_97
  let c1_i32_98 : BitVec 32 := 1#32
  let v189 : BitVec 32 := Scalar.subi v188 c1_i32_98
  let c3_i32_99 : BitVec 32 := 3#32
  let c0_i32_100 : BitVec 32 := 0#32
  let v190 : BitVec 1 := Scalar.cmpi .eq c3_i32_99 c0_i32_100
  let c1_i32_101 : BitVec 32 := 1#32
  let v191 : BitVec 32 := Scalar.select v190 c1_i32_101 c3_i32_99
  let v192 : BitVec 32 := Scalar.remsi v189 v191
  let c0_i32_103 : BitVec 32 := 0#32
  let v194 : BitVec 1 := Scalar.cmpi .slt v192 c0_i32_103
  let c0_i32_104 : BitVec 32 := 0#32
  let v195 : BitVec 1 := Scalar.cmpi .slt v191 c0_i32_104
  let v196 : BitVec 1 := Scalar.xori v194 v195
  let c0_i32_102 : BitVec 32 := 0#32
  let v193 : BitVec 1 := Scalar.cmpi .ne v192 c0_i32_102
  let v197 : BitVec 1 := Scalar.andi v196 v193
  let v198 : BitVec 32 := Scalar.addi v192 v191
  let v199 : BitVec 32 := Scalar.select v197 v198 v192
  ![v199.toNat]
def k0_off2 (i : grid0.Coords) : Fin 3 → Nat :=
  let arg0 : BitVec 32 := BitVec.ofNat 32 (i 0).val
  let c3_i32_97 : BitVec 32 := 3#32
  let v188 : BitVec 32 := Scalar.addi arg0 c3_i32_97
  let c1_i32_98 : BitVec 32 := 1#32
  let v189 : BitVec 32 := Scalar.subi v188 c1_i32_98
  let c3_i32_99 : BitVec 32 := 3#32
  let c0_i32_100 : BitVec 32 := 0#32
  let v190 : BitVec 1 := Scalar.cmpi .eq c3_i32_99 c0_i32_100
  let c1_i32_101 : BitVec 32 := 1#32
  let v191 : BitVec 32 := Scalar.select v190 c1_i32_101 c3_i32_99
  let v192 : BitVec 32 := Scalar.remsi v189 v191
  let c0_i32_103 : BitVec 32 := 0#32
  let v194 : BitVec 1 := Scalar.cmpi .slt v192 c0_i32_103
  let c0_i32_104 : BitVec 32 := 0#32
  let v195 : BitVec 1 := Scalar.cmpi .slt v191 c0_i32_104
  let v196 : BitVec 1 := Scalar.xori v194 v195
  let c0_i32_102 : BitVec 32 := 0#32
  let v193 : BitVec 1 := Scalar.cmpi .ne v192 c0_i32_102
  let v197 : BitVec 1 := Scalar.andi v196 v193
  let v198 : BitVec 32 := Scalar.addi v192 v191
  let v199 : BitVec 32 := Scalar.select v197 v198 v192
  let c0_i32_106 : BitVec 32 := 0#32
  let c0_i32_107 : BitVec 32 := 0#32
  ![v199.toNat, 0, 0]
def k0_off3 (i : grid0.Coords) : Fin 2 → Nat :=
  let arg0 : BitVec 32 := BitVec.ofNat 32 (i 0).val
  let c3_i32_97 : BitVec 32 := 3#32
  let v188 : BitVec 32 := Scalar.addi arg0 c3_i32_97
  let c1_i32_98 : BitVec 32 := 1#32
  let v189 : BitVec 32 := Scalar.subi v188 c1_i32_98
  let c256_i32_105 : BitVec 32 := 256#32
  let v200 : BitVec 32 := Scalar.muli v189 c256_i32_105
  let v201 : BitVec 32 := v200
  let c0_i32_108 : BitVec 32 := 0#32
  ![v201.toNat, 0]
def k0_mult4 (i : grid0.Coords) : BitVec 32 :=
  let arg0 : BitVec 32 := BitVec.ofNat 32 (i 0).val
  let c256_i32 : BitVec 32 := 256#32
  let v114 : BitVec 32 := Scalar.muli arg0 c256_i32
  v114
def k0_off4 (i : grid0.Coords) : Fin 1 → Nat :=
  let arg0 : BitVec 32 := BitVec.ofNat 32 (i 0).val
  let c3_i32_55 : BitVec 32 := 3#32
  let c0_i32_56 : BitVec 32 := 0#32
  let v104 : BitVec 1 := Scalar.cmpi .eq c3_i32_55 c0_i32_56
  let c1_i32_57 : BitVec 32 := 1#32
  let v105 : BitVec 32 := Scalar.select v104 c1_i32_57 c3_i32_55
  let v106 : BitVec 32 := Scalar.remsi arg0 v105
  let c0_i32_59 : BitVec 32 := 0#32
  let v108 : BitVec 1 := Scalar.cmpi .slt v106 c0_i32_59
  let c0_i32_60 : BitVec 32 := 0#32
  let v109 : BitVec 1 := Scalar.cmpi .slt v105 c0_i32_60
  let v110 : BitVec 1 := Scalar.xori v108 v109
  let c0_i32_58 : BitVec 32 := 0#32
  let v107 : BitVec 1 := Scalar.cmpi .ne v106 c0_i32_58
  let v111 : BitVec 1 := Scalar.andi v110 v107
  let v112 : BitVec 32 := Scalar.addi v106 v105
  let v113 : BitVec 32 := Scalar.select v111 v112 v106
  ![v113.toNat]
def k0_off5 (i : grid0.Coords) : Fin 3 → Nat :=
  let arg0 : BitVec 32 := BitVec.ofNat 32 (i 0).val
  let c3_i32_55 : BitVec 32 := 3#32
  let c0_i32_56 : BitVec 32 := 0#32
  let v104 : BitVec 1 := Scalar.cmpi .eq c3_i32_55 c0_i32_56
  let c1_i32_57 : BitVec 32 := 1#32
  let v105 : BitVec 32 := Scalar.select v104 c1_i32_57 c3_i32_55
  let v106 : BitVec 32 := Scalar.remsi arg0 v105
  let c0_i32_59 : BitVec 32 := 0#32
  let v108 : BitVec 1 := Scalar.cmpi .slt v106 c0_i32_59
  let c0_i32_60 : BitVec 32 := 0#32
  let v109 : BitVec 1 := Scalar.cmpi .slt v105 c0_i32_60
  let v110 : BitVec 1 := Scalar.xori v108 v109
  let c0_i32_58 : BitVec 32 := 0#32
  let v107 : BitVec 1 := Scalar.cmpi .ne v106 c0_i32_58
  let v111 : BitVec 1 := Scalar.andi v110 v107
  let v112 : BitVec 32 := Scalar.addi v106 v105
  let v113 : BitVec 32 := Scalar.select v111 v112 v106
  let c0_i32_61 : BitVec 32 := 0#32
  let c0_i32_62 : BitVec 32 := 0#32
  ![v113.toNat, 0, 0]
def k0_off6 (i : grid0.Coords) : Fin 2 → Nat :=
  let arg0 : BitVec 32 := BitVec.ofNat 32 (i 0).val
  let c256_i32 : BitVec 32 := 256#32
  let v114 : BitVec 32 := Scalar.muli arg0 c256_i32
  let v115 : BitVec 32 := v114
  let c0_i32_63 : BitVec 32 := 0#32
  ![v115.toNat, 0]
def k0_off7 (i : grid0.Coords) : Fin 3 → Nat :=
  let arg0 : BitVec 32 := BitVec.ofNat 32 (i 0).val
  let c3_i32_67 : BitVec 32 := 3#32
  let c0_i32_68 : BitVec 32 := 0#32
  let v126 : BitVec 1 := Scalar.cmpi .eq c3_i32_67 c0_i32_68
  let c1_i32_69 : BitVec 32 := 1#32
  let v127 : BitVec 32 := Scalar.select v126 c1_i32_69 c3_i32_67
  let v128 : BitVec 32 := Scalar.remsi arg0 v127
  let c0_i32_71 : BitVec 32 := 0#32
  let v130 : BitVec 1 := Scalar.cmpi .slt v128 c0_i32_71
  let c0_i32_72 : BitVec 32 := 0#32
  let v131 : BitVec 1 := Scalar.cmpi .slt v127 c0_i32_72
  let v132 : BitVec 1 := Scalar.xori v130 v131
  let c0_i32_70 : BitVec 32 := 0#32
  let v129 : BitVec 1 := Scalar.cmpi .ne v128 c0_i32_70
  let v133 : BitVec 1 := Scalar.andi v132 v129
  let v134 : BitVec 32 := Scalar.addi v128 v127
  let v135 : BitVec 32 := Scalar.select v133 v134 v128
  let v136 : Index := Scalar.indexCast v135
  let c0_73 : Index := 0#32
  let c0_74 : Index := 0#32
  ![v136.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S4096x1024 : Shape := ⟨2, ![4096, 1024]⟩
abbrev S4096x512 : Shape := ⟨2, ![4096, 512]⟩
abbrev S4096x3072 : Shape := ⟨2, ![4096, 3072]⟩
abbrev S1x1024 : Shape := ⟨2, ![1, 1024]⟩
abbrev S8x512 : Shape := ⟨2, ![8, 512]⟩
abbrev S1024x3072 : Shape := ⟨2, ![1024, 3072]⟩
abbrev S3x512 : Shape := ⟨2, ![3, 512]⟩
abbrev S2x2048x512 : Shape := ⟨3, ![2, 2048, 512]⟩
abbrev S_ : Shape := ⟨0, ![]⟩
abbrev S2x2x512 : Shape := ⟨3, ![2, 2, 512]⟩
abbrev S2x2050x512 : Shape := ⟨3, ![2, 2050, 512]⟩
abbrev S1x512 : Shape := ⟨2, ![1, 512]⟩
abbrev S512 : Shape := ⟨1, ![512]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .bf16⟩
  | .hbm, ⟨4, _⟩ => ⟨S4096x512, .f32⟩
  | .hbm, ⟨5, _⟩ => ⟨S4096x3072, .f32⟩
  | .hbm, ⟨6, _⟩ => ⟨S4096x512, .bf16⟩
  | .hbm, ⟨7, _⟩ => ⟨S4096x512, .bf16⟩
  | .hbm, ⟨8, _⟩ => ⟨S1x1024, .f32⟩
  | .hbm, ⟨9, _⟩ => ⟨S8x512, .f32⟩
  | .hbm, ⟨10, _⟩ => ⟨S1024x3072, .bf16⟩
  | .hbm, ⟨11, _⟩ => ⟨S4096x512, .f32⟩
  | .hbm, ⟨12, _⟩ => ⟨S4096x512, .f32⟩
  | .hbm, ⟨13, _⟩ => ⟨S3x512, .f32⟩
  | .hbm, ⟨14, _⟩ => ⟨S4096x512, .f32⟩
  | .hbm, ⟨15, _⟩ => ⟨S2x2048x512, .f32⟩
  | .hbm, ⟨16, _⟩ => ⟨S_, .f32⟩
  | .hbm, ⟨17, _⟩ => ⟨S2x2x512, .f32⟩
  | .hbm, ⟨18, _⟩ => ⟨S2x2050x512, .f32⟩
  | .hbm, ⟨19, _⟩ => ⟨S_, .f32⟩
  | .hbm, ⟨20, _⟩ => ⟨S2x2x512, .f32⟩
  | .hbm, ⟨21, _⟩ => ⟨S1x512, .f32⟩
  | .hbm, ⟨22, _⟩ => ⟨S512, .f32⟩
  | .hbm, ⟨23, _⟩ => ⟨S2x2048x512, .f32⟩
  | .hbm, ⟨24, _⟩ => ⟨S4096x512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S512, .f32⟩
  | .hbm, ⟨33, _⟩ => ⟨S2x2048x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S1x512, .f32⟩
  | .hbm, ⟨40, _⟩ => ⟨S512, .f32⟩
  | .hbm, ⟨41, _⟩ => ⟨S2x2048x512, .f32⟩
  | .hbm, ⟨42, _⟩ => ⟨S4096x512, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S2x2048x512, .f32⟩
  | .hbm, ⟨52, _⟩ => ⟨S_, .f32⟩
  | .hbm, ⟨53, _⟩ => ⟨S2x2050x512, .f32⟩
  | .hbm, ⟨54, _⟩ => ⟨S4096x512, .f32⟩
  | .hbm, ⟨55, _⟩ => ⟨S4096x512, .f32⟩
  | .hbm, ⟨56, _⟩ => ⟨S2x2048x512, .f32⟩
  | .hbm, ⟨57, _⟩ => ⟨S_, .f32⟩
  | .hbm, ⟨58, _⟩ => ⟨S2x2050x512, .f32⟩
  | .hbm, ⟨59, _⟩ => ⟨S2x2050x512, .f32⟩
  | .hbm, ⟨60, _⟩ => ⟨S4096x512, .f32⟩
  | .hbm, ⟨61, _⟩ => ⟨S4096x512, .f32⟩
  | .hbm, ⟨62, _⟩ => ⟨S2x2048x512, .f32⟩
  | .hbm, ⟨63, _⟩ => ⟨S_, .f32⟩
  | .hbm, ⟨64, _⟩ => ⟨S2x2050x512, .f32⟩
  | .hbm, ⟨65, _⟩ => ⟨S2x2050x512, .f32⟩
  | .hbm, ⟨66, _⟩ => ⟨S2x2x512, .f32⟩
  | .hbm, ⟨67, _⟩ => ⟨S2x2048x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x3072, .f32⟩
  | .hbm, ⟨75, _⟩ => ⟨S1024x3072, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x3072, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x1024, .f32⟩
  | .hbm, ⟨108, _⟩ => ⟨S4096x1024, .f32⟩
  | .hbm, ⟨109, _⟩ => ⟨S4096x1, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S_, .f32⟩
  | .hbm, ⟨114, _⟩ => ⟨S4096, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x3072, .bf16⟩
  | .hbm, ⟨122, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_9 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_11 : Ref sig .tc := ⟨.hbm, 110, rfl⟩
abbrev main_v87 : Ref sig .tc := ⟨.hbm, 111, rfl⟩
abbrev main_v88 : Ref sig .tc := ⟨.hbm, 112, rfl⟩
abbrev main_cst_12 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩

abbrev nD : Nat := 1
abbrev τ : Topo := Topo.v7x

variable {F : FTy → Type} [FloatOps F]
-- ==== Proof.Alg.lean ====
/- Arithmetic on the extended reals, used by both value proofs: a nonnegative real factor distributes over sums, the
   square of an extended real is nonnegative, and the gradient of a root-mean-square normalization in its two forms. -/
module

public import Idealize.ShloMosaic.PureOps.Ideal
public import Idealize.ShloMosaic.PureOps.Ideal.Laws

@[expose] public section

noncomputable section

namespace Cert.Alg

open Idealize.ShloMosaic

/-- The square of an extended real is nonnegative. -/
theorem mul_self_nonneg' (x : EReal) : 0 ≤ x * x := by
  induction x using EReal.rec with
  | bot => simp
  | top => simp
  | coe r => rw [← EReal.coe_mul]; exact EReal.coe_nonneg.mpr (mul_self_nonneg r)

/-- A nonnegative real factor on the right distributes over a sum of extended reals. -/
theorem add_mul_coe (a b : EReal) (r : ℝ) (hr : 0 ≤ r) : (a + b) * (r : EReal) = a * r + b * r := by
  rw [mul_comm, EReal.left_distrib_of_nonneg_of_ne_top (EReal.coe_nonneg.mpr hr) (EReal.coe_ne_top r), mul_comm _ a, mul_comm _ b]

/-- … and over a finite sum. -/
theorem sum_mul_coe {ι : Type} (s : Finset ι) (f : ι → EReal) (r : ℝ) (hr : 0 ≤ r) :
    (∑ i ∈ s, f i) * (r : EReal) = ∑ i ∈ s, f i * r := by
  classical
  induction s using Finset.induction_on with
  | empty => simp
  | insert a s ha ih => rw [Finset.sum_insert ha, Finset.sum_insert ha, add_mul_coe _ _ _ hr, ih]

/-- An extended real added to itself is twice it. -/
theorem add_self (z : EReal) : z + z = z * ((2 : ℝ) : EReal) := by
  have h : (((2 : ℝ)) : EReal) = 1 + 1 := by rw [← EReal.coe_one, ← EReal.coe_add]; norm_num
  rw [h, mul_comm, EReal.right_distrib_of_nonneg zero_le_one zero_le_one, one_mul]

/-- The word of 1024. -/
theorem ofBits_1024 : Ideal.ofBits .f32 0x44800000#32 = ((1024 : ℝ) : EReal) := by
  simp [Ideal.ofBits, Ideal.ieee, -EReal.coe_mul]; norm_num

/-- The word of 1/1024. -/
theorem ofBits_inv1024 : Ideal.ofBits .f32 0x3A800000#32 = ((1 / 1024 : ℝ) : EReal) := by
  simp [Ideal.ofBits, Ideal.ieee, -EReal.coe_mul]; norm_num

/-- The word of -1/2. -/
theorem ofBits_neghalf : Ideal.ofBits .f32 0xBF000000#32 = ((-(1 / 2) : ℝ) : EReal) := by
  simp [Ideal.ofBits, Ideal.ieee, -EReal.coe_mul]; norm_num

/-- The word of 1/2. -/
theorem ofBits_half : Ideal.ofBits .f32 0x3F000000#32 = ((1 / 2 : ℝ) : EReal) := by
  simp [Ideal.ofBits, Ideal.ieee, -EReal.coe_mul]; norm_num

/-- The word of 2. -/
theorem ofBits_two : Ideal.ofBits .f32 0x40000000#32 = ((2 : ℝ) : EReal) := by
  simp [Ideal.ofBits, Ideal.ieee, -EReal.coe_mul]; norm_num

/-- The word of 3. -/
theorem ofBits_three : Ideal.ofBits .f32 0x40400000#32 = ((3 : ℝ) : EReal) := by
  simp [Ideal.ofBits, Ideal.ieee, -EReal.coe_mul]; norm_num

/-- The normalization's added constant is a positive real. -/
theorem ofBits_eps : ∃ e : ℝ, 0 < e ∧ Ideal.ofBits .f32 0x358637BD#32 = (e : EReal) :=
  ⟨8796093 / 8796093022208, by norm_num, by simp [Ideal.ofBits, Ideal.ieee, -EReal.coe_mul]; norm_num⟩

/-- A mean of squares plus the added constant is `⊤` or a positive real. -/
theorem ms_cases {ι : Type} (s : Finset ι) (x : ι → EReal) :
    Ideal.div (∑ i ∈ s, x i * x i) (Ideal.ofBits .f32 0x44800000#32) + Ideal.ofBits .f32 0x358637BD#32 = ⊤
    ∨ ∃ v : ℝ, 0 < v ∧ Ideal.div (∑ i ∈ s, x i * x i) (Ideal.ofBits .f32 0x44800000#32) + Ideal.ofBits .f32 0x358637BD#32 = (v : EReal) := by
  obtain ⟨e, he, hee⟩ := ofBits_eps
  have h0 : 0 ≤ ∑ i ∈ s, x i * x i := Finset.sum_nonneg fun i _ => mul_self_nonneg' (x i)
  rw [hee, ofBits_1024, Ideal.div_coe (by norm_num)]
  generalize (∑ i ∈ s, x i * x i) = y at h0
  induction y using EReal.rec with
  | bot => simp at h0
  | top => left; rw [EReal.top_mul_coe_of_pos (by norm_num), EReal.top_add_coe]
  | coe r => right; have := EReal.coe_nonneg.mp h0; exact ⟨r * (1 / 1024) + e, by positivity, by push_cast; rfl⟩

/-- The gradient of the normalization, in the kernel's form (the normalized row's share taken out, then scaled) and in the
    reference's (the derivative of the reciprocal root times the square's two factors): equal on all extended reals. -/
theorem rms_back {n : ℕ} (x dn : Fin n → EReal) (v : EReal) (hv : v = ⊤ ∨ ∃ w : ℝ, 0 < w ∧ v = (w : EReal)) (j : Fin n) :
    Ideal.rsqrt v * (dn j - (x j * Ideal.rsqrt v) * Ideal.div (∑ i, dn i * (x i * Ideal.rsqrt v)) (Ideal.ofBits .f32 0x44800000#32))
    = (dn j * Ideal.rsqrt v
        + x j * Ideal.div ((∑ i, x i * dn i) * (Ideal.ofBits .f32 0xBF000000#32 * Ideal.div (Ideal.rsqrt v) v)) (Ideal.ofBits .f32 0x44800000#32))
      + Ideal.div ((∑ i, x i * dn i) * (Ideal.ofBits .f32 0xBF000000#32 * Ideal.div (Ideal.rsqrt v) v)) (Ideal.ofBits .f32 0x44800000#32) * x j := by
  rw [ofBits_1024, ofBits_neghalf]
  rcases hv with rfl | ⟨w, hw, rfl⟩
  · have : Ideal.div 0 ⊤ = 0 := by simp [Ideal.div]
    simp [Ideal.div_coe, this]
  · have hr : Ideal.rsqrt (w : EReal) = (((Real.sqrt w)⁻¹ : ℝ) : EReal) := by
      rw [Ideal.rsqrt_coe, if_neg (not_lt.mpr hw.le), if_neg hw.ne']
    rw [hr]
    set r : ℝ := (Real.sqrt w)⁻¹ with hrdef
    have hr0 : 0 ≤ r := by positivity
    have hrw : r * (1 / w) = r * r * r := by
      have : r * r = 1 / w := by rw [hrdef, ← mul_inv, Real.mul_self_sqrt hw.le, one_div]
      rw [← this]; ring
    have hS : ∑ i, dn i * (x i * (r : EReal)) = (∑ i, x i * dn i) * (r : EReal) := by
      rw [sum_mul_coe _ _ _ hr0]
      exact Finset.sum_congr rfl fun i _ => by rw [← mul_assoc, mul_comm (dn i)]
    rw [hS]
    generalize (∑ i, x i * dn i) = S
    rw [Ideal.div_coe (by norm_num), Ideal.div_coe hw.ne', Ideal.div_coe (by norm_num), sub_eq_add_neg,
      EReal.left_distrib_of_nonneg_of_ne_top (EReal.coe_nonneg.mpr hr0) (EReal.coe_ne_top r), add_assoc]
    congr 1
    · rw [mul_comm]
    · have e : S * (((-(1 / 2) : ℝ) : EReal) * ((r : EReal) * ((1 / w : ℝ) : EReal))) * ((1 / 1024 : ℝ) : EReal)
          = S * ((-(1 / 2) * (r * r * r) * (1 / 1024) : ℝ) : EReal) := by
        rw [← hrw]; push_cast; simp only [mul_assoc]
      have e1 : (r : EReal) * (x j * (r : EReal) * (S * (r : EReal) * ((1 / 1024 : ℝ) : EReal)))
          = x j * S * ((r * r * r * (1 / 1024) : ℝ) : EReal) := by
        push_cast; ac_rfl
      have e2 : ((-(1 / 2) * (r * r * r) * (1 / 1024) : ℝ) : EReal) * ((2 : ℝ) : EReal) = -((r * r * r * (1 / 1024) : ℝ) : EReal) := by
        rw [← EReal.coe_mul, ← EReal.coe_neg]; congr 1; ring
      rw [e, mul_comm (S * _) (x j), add_self, mul_neg, e1, ← mul_assoc (x j), mul_assoc (x j * S), e2, mul_neg]

end Cert.Alg

end
-- ==== Proof.InTile.lean ====
/- One tile of the input projection's backward call, element by element. -/
module

public import proofs.«01_k».proof.Proof.Alg
public import proofs.«01_k».proof.Proof.Gen.Kernel2Ideal.Skeleton
public import Idealize.ShloMosaic.Lib.Pipeline.ValueKit
public import Idealize.ShloMosaic.Lib.WordCmp

@[expose] public section

set_option maxRecDepth 16384

noncomputable section

namespace Cert.InTile

open Idealize.ShloMosaic Idealize.ShloMosaic.Pointwise
open Cert.Kernel2Ideal Cert.Kernel2Ideal.Gen

/-- A choice by the equality of two small numbers is that choice. -/
theorem select_eq_nat {α : Type} (n k : ℕ) (hn : n < 2 ^ 32) (hk : k < 2 ^ 32) (A B : α) :
    Scalar.select (IntOp.cmpi .eq (BitVec.ofNat 32 n) (BitVec.ofNat 32 k)) A B = if n = k then A else B := by
  rw [WordCmp.cmpi_eq_ofNat hn hk]
  by_cases h : n = k <;> simp [h, Scalar.select]

/-- The rows after the tile: none at a sequence's last tile. -/
theorem halo_at (i : grid0.Coords) (v20 : Vec Ideal S8x512 .f32) (r : Fin 8) (j : Fin 512) :
    k0_pay3 (F := Ideal) i v20 (ix2 r j) = if (i 0).val % 8 = 7 then (0 : EReal) else v20 (ix2 r j) := by
  have hi : (i 0).val < 16 := (i 0).isLt
  unfold k0_pay3
  generalize (i 0).val = n at hi ⊢
  interval_cases n <;> pointwise [] <;> rfl

/-- The convolution's gradient over a tile: its own rows, and the halo's first two after its last two. -/
theorem dv_tile (i : grid0.Coords) (v8 : Vec Ideal S256x512 .f32) (v20 : Vec Ideal S8x512 .f32) (w2 w1 w0 : Vec Ideal S1x512 .f32)
    (r : Fin 256) (j : Fin 512) :
    k0_pay8 (F := Ideal) v8 (k0_pay3 i v20) (k0_pay4 v8 w2) w1 (k0_pay5 v8) k0_pay6 (k0_pay7 i v20) w0 (ix2 r j)
      = (w2 (ix2 0 j) * v8 (ix2 r j)
          + w1 (ix2 0 j) * (if h : r.val < 255 then v8 (ix2 ⟨r.val + 1, by omega⟩ j)
              else if (i 0).val % 8 = 7 then (0 : EReal) else v20 (ix2 0 j)))
        + w0 (ix2 0 j) * (if h : r.val < 254 then v8 (ix2 ⟨r.val + 2, by omega⟩ j)
              else if (i 0).val % 8 = 7 then (0 : EReal) else v20 (ix2 ⟨r.val - 254, by omega⟩ j)) := by
  have hr := r.isLt
  have e0 := halo_at i v20 0 j
  have e1 := halo_at i v20 1 j
  unfold k0_pay7
  generalize k0_pay3 (F := Ideal) i v20 = h at *
  pointwise [k0_pay8, k0_pay4, k0_pay5, k0_pay6]
  refine congrArg₂ (· + ·) (congrArg (_ + ·) (congrArg (w1 (ix2 0 j) * ·) ?_)) (congrArg (w0 (ix2 0 j) * ·) ?_)
  · rw [select_eq_nat r.val 255 (by omega) (by omega)]
    by_cases h1 : r.val < 255
    · rw [if_neg (by omega), dif_pos h1]
      exact congrArg (fun q => v8 (ix2 q j)) (Fin.ext (by simp only []; omega))
    · rw [if_pos (by omega), dif_neg h1, e0]
  · rw [select_eq_nat r.val 255 (by omega) (by omega), select_eq_nat r.val 254 (by omega) (by omega)]
    by_cases h1 : r.val < 254
    · rw [if_neg (by omega), if_neg (by omega), dif_pos h1]
      exact congrArg (fun q => v8 (ix2 q j)) (Fin.ext (by simp only []; omega))
    · rw [dif_neg h1]
      by_cases h2 : r.val = 255
      · rw [if_pos h2, e1]
        have : (⟨r.val - 254, by omega⟩ : Fin 8) = 1 := Fin.ext (by simp only []; omega)
        rw [this]
      · rw [if_neg h2, if_pos (by omega), e0]
        have : (⟨r.val - 254, by omega⟩ : Fin 8) = 0 := Fin.ext (by simp only []; omega)
        rw [this]

/-- The gradient of the normalised rows: six products with the projection's column blocks. -/
theorem dn_tile (p0 p1 p3 p5 : Vec Ideal S256x512 .bf16) (a0 a1 a2 a3 a4 a5 : Vec Ideal S1024x512 .bf16) (p2 p4 : FVec Ideal S256x512 .f32)
    (r : Fin 256) (j : Fin 1024) :
    k0_pay22 (F := Ideal) p5 (k0_pay20 p1 p2 p3 p4 k0_pay11 p0 a0 a1 a2 a3 a4) a5 (ix2 r j)
      = ((((∑ x : Fin 512, p0 (ix2 r x) * a0 (ix2 j x) + ∑ x : Fin 512, p1 (ix2 r x) * a1 (ix2 j x)) + ∑ x : Fin 512, p2 (ix2 r x) * a2 (ix2 j x))
          + ∑ x : Fin 512, p3 (ix2 r x) * a3 (ix2 j x)) + ∑ x : Fin 512, p4 (ix2 r x) * a4 (ix2 j x)) + ∑ x : Fin 512, p5 (ix2 r x) * a5 (ix2 j x) := by
  pointwise [k0_pay22, k0_pay20, k0_pay11, k0_pay15, k0_pay18]

/-- A tile row's mean square, plus the normalisation's epsilon. -/
def msT (x : Vec Ideal S1x256x1024 .f32) (r : Fin 256) : EReal :=
  Ideal.div (∑ k : Fin 1024, x (ix3 0 r k) * x (ix3 0 r k)) (Ideal.ofBits .f32 0x44800000#32) + Ideal.ofBits .f32 0x358637BD#32

theorem gx_tile (D : FVec Ideal S256x1024 .f32) (x dh : Vec Ideal S1x256x1024 .f32) (g : Vec Ideal S1x1024 .f32) (r : Fin 256) (j : Fin 1024) :
    k0_pay1 (F := Ideal) (k0_pay24 x) (k0_pay25 x) (k0_pay27 D g) (k0_pay28 dh) (k0_pay29 D x g) (ix2 r j)
      = dh (ix3 0 r j) + Ideal.rsqrt (msT x r)
          * (D (ix2 r j) * g (ix2 0 j)
            - (x (ix3 0 r j) * Ideal.rsqrt (msT x r))
              * Ideal.div (∑ k : Fin 1024, (D (ix2 r k) * g (ix2 0 k)) * (x (ix3 0 r k) * Ideal.rsqrt (msT x r))) (Ideal.ofBits .f32 0x44800000#32)) := by
  pointwise [k0_pay1, k0_pay24, k0_pay25, k0_pay27, k0_pay28, k0_pay29, k0_pay23, msT]

theorem dg_tile (D : FVec Ideal S256x1024 .f32) (x : Vec Ideal S1x256x1024 .f32) (acc : Vec Ideal S8x1024 .f32) (a : Fin 8) (j : Fin 1024) :
    k0_pay26 (F := Ideal) D x acc (ix2 a j)
      = acc (ix2 a j) + ∑ r : Fin 256, D (ix2 r j) * (x (ix3 0 r j) * Ideal.rsqrt (msT x r)) := by
  pointwise [k0_pay26, k0_pay24, k0_pay25, k0_pay23, msT]

end Cert.InTile

end
-- ==== Proof.InRing.lean ====
/- The rows the input projection's backward call streams itself: a slot of its ring, read where the body loads it. -/
module

public import proofs.«01_k».proof.Proof.Gen.Kernel2Ideal.Frame.Runs
public import Idealize.ShloMosaic.Lib.Pipeline.ValueKit

@[expose] public section

set_option maxRecDepth 16384

noncomputable section

namespace Cert.InRing

open Idealize.ShloMosaic Idealize.ShloMosaic.Pointwise Idealize.ShloMosaic.TcCoe
open Cert.Kernel2Ideal Cert.Kernel2Ideal.Gen

theorem lin (r : Fin 256) (k : Fin 1024) :
    ((⟨3, ![1, 256, 1024]⟩ : Shape).rowMajor (ix3 0 r k)).val = ((⟨2, ![256, 1024]⟩ : Shape).rowMajor (ix2 r k)).val := by
  rw [Shape.rowMajor_val_three, Shape.rowMajor_val_two]
  simp

/-- Slot `s` of the first ring, loaded through the whole buffer, holds what was written to it. -/
theorem slot_0 (s : Fin 3) (off : Fin 3 → ℕ) (ho : off = ![s.val, 0, 0]) (inb : ∀ a, off a + (![1, 256, 1024] : Fin 3 → ℕ) a ≤ S3x256x1024.size a)
    (f : (rslot0_0 s).view.ty.Contents (Elt Ideal)) (w : Vec Ideal S256x1024 .f32) (r : Fin 256) (k : Fin 1024) :
    View.readAt (Elt Ideal) (View.whole cc0_scratch0) (Rect.unit (s := S3x256x1024) off ![1, 256, 1024] inb).toLoadRect
      ((rslot0_0 s).view.writes (Elt Ideal) f [⟨Rect.whole S256x1024, w⟩]) (ix3 0 r k) = w (ix2 r k) := by
  subst ho
  refine Eq.trans ?_ (congrFun (View.read_writes_whole (rslot0_0 s).view f w) (ix2 r k))
  generalize (rslot0_0 s).view.writes (Elt Ideal) f [⟨Rect.whole S256x1024, w⟩] = g
  refine congrArg (fun e => (g e : EReal)) (a₁ := (View.whole cc0_scratch0).emb ((Rect.unit (s := S3x256x1024) ![s.val, 0, 0] ![1, 256, 1024] inb).toLoadRect.idx (ix3 0 r k))) (a₂ := (rslot0_0 s).view.emb (ix2 r k)) ?_
  show _ = (View.whole cc0_scratch0).emb ((Rect.unit (s := S3x256x1024) ![s.val, 0, 0] S1x256x1024.size (inb_slot0_0 s)).emb (Shape.reshapeEquiv _ (ix2 r k)))
  rw [Shape.reshapeEquiv_eq_of_rowMajor _ (lin r k)]
  rfl

theorem slot_1 (s : Fin 3) (off : Fin 3 → ℕ) (ho : off = ![s.val, 0, 0]) (inb : ∀ a, off a + (![1, 256, 1024] : Fin 3 → ℕ) a ≤ S3x256x1024.size a)
    (f : (rslot0_1 s).view.ty.Contents (Elt Ideal)) (w : Vec Ideal S256x1024 .f32) (r : Fin 256) (k : Fin 1024) :
    View.readAt (Elt Ideal) (View.whole cc0_scratch1) (Rect.unit (s := S3x256x1024) off ![1, 256, 1024] inb).toLoadRect
      ((rslot0_1 s).view.writes (Elt Ideal) f [⟨Rect.whole S256x1024, w⟩]) (ix3 0 r k) = w (ix2 r k) := by
  subst ho
  refine Eq.trans ?_ (congrFun (View.read_writes_whole (rslot0_1 s).view f w) (ix2 r k))
  generalize (rslot0_1 s).view.writes (Elt Ideal) f [⟨Rect.whole S256x1024, w⟩] = g
  refine congrArg (fun e => (g e : EReal)) (a₁ := (View.whole cc0_scratch1).emb ((Rect.unit (s := S3x256x1024) ![s.val, 0, 0] ![1, 256, 1024] inb).toLoadRect.idx (ix3 0 r k))) (a₂ := (rslot0_1 s).view.emb (ix2 r k)) ?_
  show _ = (View.whole cc0_scratch1).emb ((Rect.unit (s := S3x256x1024) ![s.val, 0, 0] S1x256x1024.size (inb_slot0_1 s)).emb (Shape.reshapeEquiv _ (ix2 r k)))
  rw [Shape.reshapeEquiv_eq_of_rowMajor _ (lin r k)]
  rfl

/-- Block `b` of the first streamed operand is its rows `256 b … 256 b + 255`. -/
theorem src_0 (b : Fin 16) (X : FVec Ideal S4096x1024 .f32) (r : Fin 256) (k : Fin 1024) (i : Fin 4096) (hi : i.val = 256 * b.val + r.val) :
    (ReadAs.same.apply (View.read (Elt Ideal) (srcB0_0 b).view X) : Vec Ideal S256x1024 .f32) (ix2 r k) = X (ix2 i k) := by
  show X ((srcB0_0 b).view.emb (ix2 r k)) = X (ix2 i k)
  refine congrArg X (funext fun a => Fin.ext ?_)
  match a with
  | ⟨0, _⟩ => show 256 * b.val + 1 * r.val = i.val; omega
  | ⟨1, _⟩ => show 0 + 1 * k.val = k.val; omega

theorem src_1 (b : Fin 16) (X : FVec Ideal S4096x1024 .f32) (r : Fin 256) (k : Fin 1024) (i : Fin 4096) (hi : i.val = 256 * b.val + r.val) :
    (ReadAs.same.apply (View.read (Elt Ideal) (srcB0_1 b).view X) : Vec Ideal S256x1024 .f32) (ix2 r k) = X (ix2 i k) := by
  show X ((srcB0_1 b).view.emb (ix2 r k)) = X (ix2 i k)
  refine congrArg X (funext fun a => Fin.ext ?_)
  match a with
  | ⟨0, _⟩ => show 256 * b.val + 1 * r.val = i.val; omega
  | ⟨1, _⟩ => show 0 + 1 * k.val = k.val; omega

end Cert.InRing

end
-- ==== Proof.Ref2.lean ====
/- The reference of the input projection's backward call, read element by element. -/
module

public import proofs.«01_k».proof.Proof.Alg
public import proofs.«01_k».proof.Proof.Gen.Reference2Ideal.Read
public import Idealize.ShloMosaic.Lib.Pipeline.ValueKit

@[expose] public section

set_option maxRecDepth 16384

noncomputable section

namespace Cert.Ref2

open Idealize.ShloMosaic Idealize.ShloMosaic.Pointwise
open Cert.Reference2Ideal Cert.Reference2Ideal.Gen Cert.Reference2Ideal.Read

/-- The causal convolution's gradient to its input at token `i`, channel `j`: the taps' products with the gradients of this
    token and the two after it in the same sequence. -/
def dvS (x4 : FVec Ideal S4096x512 .f32) (x9 : FVec Ideal S8x512 .f32) (i : Fin 4096) (j : Fin 512) : EReal :=
  (x9 (ix2 2 j) * x4 (ix2 i j)
    + (if h : i.val % 2048 < 2047 then x9 (ix2 1 j) * x4 (ix2 ⟨i.val + 1, by omega⟩ j) else 0))
    + (if h : i.val % 2048 < 2046 then x9 (ix2 0 j) * x4 (ix2 ⟨i.val + 2, by omega⟩ j) else 0)

theorem dv_at (x4 : FVec Ideal S4096x512 .f32) (x9 : FVec Ideal S8x512 .f32) (i : Fin 4096) (j : Fin 512) :
    val_main_v51 (F := Ideal) x4 x9 (ix2 i j) = dvS x4 x9 i j := by
  pointwise [val_main_v51, val_main_v50, val_main_v48, val_main_v43, val_main_v38, val_main_v42, val_main_v47, val_main_v37, val_main_v41, val_main_v46,
    val_main_v36, val_main_v40, val_main_v45, val_main_v35, val_main_v39, val_main_v44, val_main_v29, val_main_v21, val_main_v12, val_main_v34, val_main_v33,
    val_main_cst_2, val_main_cst_3, val_main_cst_4, val_main_v28, val_main_v27, val_main_v26, val_main_v25, val_main_v20, val_main_v19, val_main_v18,
    val_main_v17, val_main_v11, val_main_v10, val_main_v9, val_main_v8, val_main_v2, dvS]
  have hi := i.isLt
  refine congrArg₂ (· + ·) (congrArg₂ (· + ·) ?_ ?_) ?_
  · rw [dif_pos (by omega)]
  · by_cases h : i.val % 2048 < 2047
    · refine (dif_pos (by omega)).trans (Eq.trans ?_ (dif_pos h).symm)
      exact congrArg (x9 (ix2 1 j) * ·) (congrArg (fun q => x4 (ix2 q j)) (Fin.ext (by simp only []; omega)))
    · exact (dif_neg (by omega)).trans (by rw [dif_neg h])
  · by_cases h : i.val % 2048 < 2046
    · refine (dif_pos (by omega)).trans (Eq.trans ?_ (dif_pos h).symm)
      exact congrArg (x9 (ix2 0 j) * ·) (congrArg (fun q => x4 (ix2 q j)) (Fin.ext (by simp only []; omega)))
    · exact (dif_neg (by omega)).trans (by rw [dif_neg h])

/-! The six column blocks of the reference's gradient of the projection. -/

variable (x2 : FVec Ideal S4096x512 .f32) (x3 : FVec Ideal S4096x512 .bf16) (x4 : FVec Ideal S4096x512 .f32) (x5 : FVec Ideal S4096x3072 .f32)
    (x6 x7 : FVec Ideal S4096x512 .bf16) (x9 : FVec Ideal S8x512 .f32)

theorem dproj_0 (i : Fin 4096) (j : Fin 512) (k : Fin 3072) (hk : k.val = 0 + j.val) :
    val_main_v57 (F := Ideal) x2 x3 x4 x5 x6 x7 x9 (ix2 i k) = x2 (ix2 i j) := by
  have hj := j.isLt
  pointwise [val_main_v57, val_main_v54, val_main_v52, val_main_v55, val_main_v53, val_main_v56, val_main_v0, val_main_v1]
  rw [dif_pos (by omega)]
  exact congrArg _ (congrArg (ix2 i) (Fin.ext (by simp only []; omega)))

theorem dproj_1 (i : Fin 4096) (j : Fin 512) (k : Fin 3072) (hk : k.val = 512 + j.val) :
    val_main_v57 (F := Ideal) x2 x3 x4 x5 x6 x7 x9 (ix2 i k) = x3 (ix2 i j) := by
  have hj := j.isLt
  pointwise [val_main_v57, val_main_v54, val_main_v52, val_main_v55, val_main_v53, val_main_v56, val_main_v0, val_main_v1]
  rw [dif_neg (by omega)]
  rw [dif_pos (by omega)]
  exact congrArg _ (congrArg (ix2 i) (Fin.ext (by simp only []; omega)))

theorem dproj_2 (i : Fin 4096) (j : Fin 512) (k : Fin 3072) (hk : k.val = 1024 + j.val) :
    val_main_v57 (F := Ideal) x2 x3 x4 x5 x6 x7 x9 (ix2 i k) = x5 (ix2 i ⟨2048 + j.val, by omega⟩) * dvS x4 x9 i j := by
  have hj := j.isLt
  pointwise [val_main_v57, val_main_v54, val_main_v52, val_main_v55, val_main_v53, val_main_v56, val_main_v0, val_main_v1]
  rw [dif_neg (by omega)]
  rw [dif_neg (by omega)]
  rw [dif_pos (by omega)]
  refine congrArg₂ (· * ·) ?_ ?_
  · exact congrArg x5 (congrArg (ix2 i) (Fin.ext (by simp only []; omega)))
  · exact (dv_at x4 x9 i _).trans (congrArg (dvS x4 x9 i) (Fin.ext (by simp only []; omega)))

theorem dproj_3 (i : Fin 4096) (j : Fin 512) (k : Fin 3072) (hk : k.val = 1536 + j.val) :
    val_main_v57 (F := Ideal) x2 x3 x4 x5 x6 x7 x9 (ix2 i k) = x6 (ix2 i j) := by
  have hj := j.isLt
  pointwise [val_main_v57, val_main_v54, val_main_v52, val_main_v55, val_main_v53, val_main_v56, val_main_v0, val_main_v1]
  rw [dif_neg (by omega)]
  rw [dif_neg (by omega)]
  rw [dif_neg (by omega)]
  rw [dif_pos (by omega)]
  exact congrArg _ (congrArg (ix2 i) (Fin.ext (by simp only []; omega)))

theorem dproj_4 (i : Fin 4096) (j : Fin 512) (k : Fin 3072) (hk : k.val = 2048 + j.val) :
    val_main_v57 (F := Ideal) x2 x3 x4 x5 x6 x7 x9 (ix2 i k) = dvS x4 x9 i j * x5 (ix2 i ⟨1024 + j.val, by omega⟩) := by
  have hj := j.isLt
  pointwise [val_main_v57, val_main_v54, val_main_v52, val_main_v55, val_main_v53, val_main_v56, val_main_v0, val_main_v1]
  rw [dif_neg (by omega)]
  rw [dif_neg (by omega)]
  rw [dif_neg (by omega)]
  rw [dif_neg (by omega)]
  rw [dif_pos (by omega)]
  refine congrArg₂ (· * ·) ?_ ?_
  · exact (dv_at x4 x9 i _).trans (congrArg (dvS x4 x9 i) (Fin.ext (by simp only []; omega)))
  · exact congrArg x5 (congrArg (ix2 i) (Fin.ext (by simp only []; omega)))

theorem dproj_5 (i : Fin 4096) (j : Fin 512) (k : Fin 3072) (hk : k.val = 2560 + j.val) :
    val_main_v57 (F := Ideal) x2 x3 x4 x5 x6 x7 x9 (ix2 i k) = x7 (ix2 i j) := by
  have hj := j.isLt
  pointwise [val_main_v57, val_main_v54, val_main_v52, val_main_v55, val_main_v53, val_main_v56, val_main_v0, val_main_v1]
  rw [dif_neg (by omega)]
  rw [dif_neg (by omega)]
  rw [dif_neg (by omega)]
  rw [dif_neg (by omega)]
  rw [dif_neg (by omega)]
  exact congrArg _ (congrArg (ix2 i) (Fin.ext (by simp only []; omega)))

variable (x0 x1 : FVec Ideal S4096x1024 .f32) (x8 : FVec Ideal S1x1024 .f32) (x10 : FVec Ideal S1024x3072 .bf16)

theorem dn_at (i : Fin 4096) (j : Fin 1024) :
    val_main_v75 (F := Ideal) x2 x3 x4 x5 x6 x7 x9 x10 (ix2 i j)
      = ∑ k : Fin 3072, val_main_v57 (F := Ideal) x2 x3 x4 x5 x6 x7 x9 (ix2 i k) * x10 (ix2 j k) := by
  pointwise [val_main_v75, val_main_v58]

/-- A row's mean square, plus the normalisation's epsilon. -/
def ms (x0 : FVec Ideal S4096x1024 .f32) (i : Fin 4096) : EReal :=
  Ideal.div (∑ k : Fin 1024, x0 (ix2 i k) * x0 (ix2 i k)) (Ideal.ofBits .f32 0x44800000#32) + Ideal.ofBits .f32 0x358637BD#32

theorem gx_at (i : Fin 4096) (j : Fin 1024) :
    val_main_v95 (F := Ideal) x0 x1 x2 x3 x4 x5 x6 x7 x8 x9 x10 (ix2 i j)
      = x1 (ix2 i j) + Ideal.rsqrt (ms x0 i)
          * (val_main_v75 (F := Ideal) x2 x3 x4 x5 x6 x7 x9 x10 (ix2 i j) * x8 (ix2 0 j)
            - (x0 (ix2 i j) * Ideal.rsqrt (ms x0 i))
              * Ideal.div (∑ k : Fin 1024, (val_main_v75 (F := Ideal) x2 x3 x4 x5 x6 x7 x9 x10 (ix2 i k) * x8 (ix2 0 k))
                  * (x0 (ix2 i k) * Ideal.rsqrt (ms x0 i))) (Ideal.ofBits .f32 0x44800000#32)) := by
  refine Eq.trans ?_ (congrArg (x1 (ix2 i j) + ·) (Cert.Alg.rms_back (fun k => x0 (ix2 i k))
    (fun k => val_main_v75 (F := Ideal) x2 x3 x4 x5 x6 x7 x9 x10 (ix2 i k) * x8 (ix2 0 k)) (ms x0 i) (Cert.Alg.ms_cases _ _) j)).symm
  pointwise [val_main_v95, val_main_v94, val_main_v93, val_main_v92, val_main_v91, val_main_v90, val_main_v89, val_main_v88, val_main_v87, val_main_v86, val_main_v85,
    val_main_v84, val_main_v83, val_main_v82, val_main_v81, val_main_v80, val_main_v79, val_main_v70, val_main_v69, val_main_v68, val_main_v67, val_main_v66, val_main_v65,
    val_main_v64, val_main_v63, val_main_v62, val_main_v61, val_main_v60, val_main_v59, val_main_cst_5, val_main_cst_6, val_main_cst_7, val_main_cst_8, val_main_cst_9,
    val_main_cst_10, val_main_cst_11, val_main_cst_12, ms]
  simp only [Finset.univ_unique, Finset.sum_singleton]

theorem dg_at (a : Fin 8) (j : Fin 1024) :
    val_main_v97 (F := Ideal) x0 x2 x3 x4 x5 x6 x7 x9 x10 (ix2 a j)
      = ∑ i : Fin 4096, val_main_v75 (F := Ideal) x2 x3 x4 x5 x6 x7 x9 x10 (ix2 i j) * (x0 (ix2 i j) * Ideal.rsqrt (ms x0 i)) := by
  pointwise [val_main_v97, val_main_v78, val_main_v77, val_main_v76, val_main_v71,
    val_main_v70, val_main_v66, val_main_v65,
    val_main_v64, val_main_v63, val_main_v62, val_main_v61, val_main_v60, val_main_v59, val_main_cst_5, val_main_cst_6, val_main_cst_7, val_main_cst_8, val_main_cst_9, ms]
  exact Finset.sum_congr rfl fun i _ => mul_comm _ _

end Cert.Ref2

end
-- ==== Proof.InBwd.lean ====
/- The input projection's backward call: what its kernel leaves in its results is the reference's. -/
module

public import proofs.«01_k».proof.Proof.InTile
public import proofs.«01_k».proof.Proof.InRing
public import proofs.«01_k».proof.Proof.Ref2
public import proofs.«01_k».proof.Proof.Gen.Kernel2Ideal.Value

@[expose] public section

set_option maxRecDepth 16384

noncomputable section

namespace Cert.InBwd

open Idealize.ShloMosaic Idealize.ShloMosaic.Pointwise Idealize.ShloMosaic.TcCoe
open Idealize.ShloMosaic.Pipeline (Dat Cfg Window)
open Cert.Kernel2Ideal Cert.Kernel2Ideal.Gen
open Cert.Reference2Ideal.Read (val_main_v57 val_main_v75 val_main_v95 val_main_v96 val_main_v97)

/-- A sum over the projection's columns, block by block. -/
theorem sum_six (f : Fin 3072 → EReal) :
    ∑ k : Fin 3072, f k
      = ((((∑ x : Fin 512, f ⟨x.val, by omega⟩ + ∑ x : Fin 512, f ⟨512 + x.val, by omega⟩) + ∑ x : Fin 512, f ⟨1024 + x.val, by omega⟩)
          + ∑ x : Fin 512, f ⟨1536 + x.val, by omega⟩) + ∑ x : Fin 512, f ⟨2048 + x.val, by omega⟩) + ∑ x : Fin 512, f ⟨2560 + x.val, by omega⟩ := by
  refine (Fin.sum_univ_add (a := 2560) (b := 512) f).trans (congrArg (· + _) ?_)
  refine (Fin.sum_univ_add (a := 2048) (b := 512) _).trans (congrArg (· + _) ?_)
  refine (Fin.sum_univ_add (a := 1536) (b := 512) _).trans (congrArg (· + _) ?_)
  refine (Fin.sum_univ_add (a := 1024) (b := 512) _).trans (congrArg (· + _) ?_)
  exact Fin.sum_univ_add (a := 512) (b := 512) _

theorem coord : ∀ t : Fin cfg0.N, (grid0.coords t 0).val = t.val := (by decide +kernel : ∀ t : Fin grid0.N, _)

theorem idx : ∀ t : Fin cfg0.N, win0_0.index t = ![t.val, 0] ∧ win0_1.index t = ![t.val, 0] ∧ win0_2.index t = ![t.val, 0]
    ∧ win0_3.index t = ![min ((t.val + 1) * 32) 511, 0] ∧ win0_4.index t = ![t.val, 2] ∧ win0_5.index t = ![t.val, 4]
    ∧ win0_6.index t = ![t.val, 0] ∧ win0_7.index t = ![t.val, 0] ∧ win0_8.index t = ![0, 0] ∧ win0_9.index t = ![0, 0]
    ∧ win0_10.index t = ![0, 0] ∧ win0_11.index t = ![t.val, 0] ∧ win0_12.index t = ![t.val, 0] ∧ win0_13.index t = ![0, 0] :=
  (by decide +kernel : ∀ t : Fin grid0.N, _)

variable (m : (ℓ : Loc nD τ sig) → Buf (Elt Ideal) ℓ) (c : Dev nD)

abbrev X0 : FVec Ideal S4096x1024 .f32 := m ((c : Thread nD τ).loc main_arg0)
abbrev X1 : FVec Ideal S4096x1024 .f32 := m ((c : Thread nD τ).loc main_arg1)
abbrev X2 : FVec Ideal S4096x512 .f32 := m ((c : Thread nD τ).loc main_arg2)
abbrev X3 : FVec Ideal S4096x512 .bf16 := m ((c : Thread nD τ).loc main_arg3)
abbrev X4 : FVec Ideal S4096x512 .f32 := m ((c : Thread nD τ).loc main_arg4)
abbrev X5 : FVec Ideal S4096x3072 .f32 := m ((c : Thread nD τ).loc main_arg5)
abbrev X6 : FVec Ideal S4096x512 .bf16 := m ((c : Thread nD τ).loc main_arg6)
abbrev X7 : FVec Ideal S4096x512 .bf16 := m ((c : Thread nD τ).loc main_arg7)
abbrev X8 : FVec Ideal S1x1024 .f32 := m ((c : Thread nD τ).loc main_arg8)
abbrev X9 : FVec Ideal S8x512 .f32 := m ((c : Thread nD τ).loc main_arg9)
abbrev X10 : FVec Ideal S1024x3072 .bf16 := m ((c : Thread nD τ).loc main_arg10)

variable (t : Fin cfg0.N)

/-! The blocks of point `t`, read as rows `256 t + r` of the arguments. -/

section Blocks
variable (r : Fin 256) (j : Fin 512) (i : Fin 4096) (hi : i.val = 256 * t.val + r.val)
include hi

theorem b0 : iblk m c 0 t (ix2 r j) = X2 m c (ix2 i j) := by blk_point [iblk, V, idx t]
theorem b1 : iblk m c 1 t (ix2 r j) = X3 m c (ix2 i j) := by blk_point [iblk, V, idx t]
theorem b2 : iblk m c 2 t (ix2 r j) = X4 m c (ix2 i j) := by blk_point [iblk, V, idx t]
theorem b4 : iblk m c 4 t (ix2 r j) = X5 m c (ix2 i ⟨1024 + j.val, by omega⟩) := by blk_point [iblk, V, idx t]
theorem b5 : iblk m c 5 t (ix2 r j) = X5 m c (ix2 i ⟨2048 + j.val, by omega⟩) := by blk_point [iblk, V, idx t]
theorem b6 : iblk m c 6 t (ix2 r j) = X6 m c (ix2 i j) := by blk_point [iblk, V, idx t]
theorem b7 : iblk m c 7 t (ix2 r j) = X7 m c (ix2 i j) := by blk_point [iblk, V, idx t]

end Blocks

theorem b3 (ht : t.val < 15) (r : Fin 8) (j : Fin 512) (i : Fin 4096) (hi : i.val = 256 * (t.val + 1) + r.val) :
    iblk m c 3 t (ix2 r j) = X4 m c (ix2 i j) := by blk_point [iblk, V, idx t]
theorem b8 (a : Fin 1) (j : Fin 1024) : iblk m c 8 t (ix2 a j) = X8 m c (ix2 a j) := by blk_point [iblk, V, idx t]
theorem b9 (a : Fin 8) (j : Fin 512) : iblk m c 9 t (ix2 a j) = X9 m c (ix2 a j) := by blk_point [iblk, V, idx t]
theorem b10 (k : Fin 1024) (j : Fin 3072) : iblk m c 10 t (ix2 k j) = X10 m c (ix2 k j) := by blk_point [iblk, V, idx t]

/-- The streamed rows of point `t`, as the body loads them. -/
abbrev xT : Vec Ideal S1x256x1024 .f32 :=
  View.readAt (Elt Ideal) (View.whole cc0_scratch0) (Rect.unit (s := S3x256x1024) (k0_off7 (grid0.coords t)) ![1, 256, 1024] (k0_off7_inb (grid0.coords t))).toLoadRect
    ((rslot0_0 (Fin.ofNat 3 t.val)).view.writes (Elt Ideal) (rslot0_0 (Fin.ofNat 3 t.val)).view.junk
      [⟨Rect.whole S256x1024, ReadAs.same.apply (View.read (Elt Ideal) (srcB0_0 (Ring.bk 16 t.val)).view (V m c main_arg0))⟩])
abbrev dhT : Vec Ideal S1x256x1024 .f32 :=
  View.readAt (Elt Ideal) (View.whole cc0_scratch1) (Rect.unit (s := S3x256x1024) (k0_off7 (grid0.coords t)) ![1, 256, 1024] (k0_off7_inb (grid0.coords t))).toLoadRect
    ((rslot0_1 (Fin.ofNat 3 t.val)).view.writes (Elt Ideal) (rslot0_1 (Fin.ofNat 3 t.val)).view.junk
      [⟨Rect.whole S256x1024, ReadAs.same.apply (View.read (Elt Ideal) (srcB0_1 (Ring.bk 16 t.val)).view (V m c main_arg1))⟩])

theorem ht16 : t.val < 16 := lt_of_lt_of_eq t.isLt N_0

theorem xT_at (r : Fin 256) (k : Fin 1024) (i : Fin 4096) (hi : i.val = 256 * t.val + r.val) : xT m c t (ix3 0 r k) = X0 m c (ix2 i k) := by
  refine (InRing.slot_0 _ _ (coff0_0_13 t) _ _ _ r k).trans ?_
  exact InRing.src_0 _ _ r k i (by rw [Ring.bk_val (ht16 t)]; exact hi)
theorem dhT_at (r : Fin 256) (k : Fin 1024) (i : Fin 4096) (hi : i.val = 256 * t.val + r.val) : dhT m c t (ix3 0 r k) = X1 m c (ix2 i k) := by
  refine (InRing.slot_1 _ _ (coff0_1_13 t) _ _ _ r k).trans ?_
  exact InRing.src_1 _ _ r k i (by rw [Ring.bk_val (ht16 t)]; exact hi)

/-! The convolution's gradient and the six column blocks. -/

abbrev w2T : Vec Ideal S1x512 .f32 := View.ld (iblk m c 9 t) (Rect.unit ![2, 0] ![1, 512] inb_S8x512_S1x512_2_0)
abbrev w1T : Vec Ideal S1x512 .f32 := View.ld (iblk m c 9 t) (Rect.unit ![1, 0] ![1, 512] inb_S8x512_S1x512_1_0)
abbrev w0T : Vec Ideal S1x512 .f32 := View.ld (iblk m c 9 t) (Rect.unit ![0, 0] ![1, 512] inb_S8x512_S1x512_0_0)

theorem w2_at (j : Fin 512) : w2T m c t (ix2 0 j) = X9 m c (ix2 2 j) := by
  unfold w2T
  blk_point [iblk, V, idx t]
theorem w1_at (j : Fin 512) : w1T m c t (ix2 0 j) = X9 m c (ix2 1 j) := by
  unfold w1T
  blk_point [iblk, V, idx t]
theorem w0_at (j : Fin 512) : w0T m c t (ix2 0 j) = X9 m c (ix2 0 j) := by
  unfold w0T
  blk_point [iblk, V, idx t]

theorem dv (r : Fin 256) (j : Fin 512) (i : Fin 4096) (hi : i.val = 256 * t.val + r.val) :
    k0_pay8 (F := Ideal) (iblk m c 2 t) (k0_pay3 (grid0.coords t) (iblk m c 3 t)) (k0_pay4 (iblk m c 2 t) (w2T m c t)) (w1T m c t) (k0_pay5 (iblk m c 2 t))
      k0_pay6 (k0_pay7 (grid0.coords t) (iblk m c 3 t)) (w0T m c t) (ix2 r j) = Ref2.dvS (X4 m c) (X9 m c) i j := by
  have ht := ht16 t
  have hr := r.isLt
  rw [InTile.dv_tile, w2_at, w1_at, w0_at, coord t, b2 m c t r j i hi]
  unfold Ref2.dvS
  refine congrArg₂ (· + ·) (congrArg₂ (· + ·) rfl ?_) ?_
  · by_cases h : i.val % 2048 < 2047
    · refine Eq.trans ?_ (dif_pos h).symm
      refine congrArg (_ * ·) ?_
      by_cases h1 : r.val < 255
      · exact (dif_pos h1).trans (b2 m c t _ j _ (by simp only []; omega))
      · refine (dif_neg h1).trans ((if_neg (by omega)).trans (b3 m c t (by omega) 0 j _ ?_))
        show i.val + 1 = 256 * (t.val + 1) + 0
        omega
    · refine Eq.trans ?_ (dif_neg h).symm
      rw [dif_neg (by omega), if_pos (by omega), mul_zero]
  · by_cases h : i.val % 2048 < 2046
    · refine Eq.trans ?_ (dif_pos h).symm
      refine congrArg (_ * ·) ?_
      by_cases h1 : r.val < 254
      · exact (dif_pos h1).trans (b2 m c t _ j _ (by simp only []; omega))
      · refine (dif_neg h1).trans ((if_neg (by omega)).trans (b3 m c t (by omega) _ j _ ?_))
        simp only []; omega
    · refine Eq.trans ?_ (dif_neg h).symm
      rw [dif_neg (by omega), if_pos (by omega), mul_zero]

abbrev p2T : FVec Ideal S256x512 .f32 :=
  k0_pay9 (F := Ideal) (iblk m c 2 t) (k0_pay3 (grid0.coords t) (iblk m c 3 t)) (k0_pay4 (iblk m c 2 t) (w2T m c t)) (w1T m c t) (k0_pay5 (iblk m c 2 t))
    k0_pay6 (k0_pay7 (grid0.coords t) (iblk m c 3 t)) (w0T m c t) (iblk m c 5 t)
abbrev p4T : FVec Ideal S256x512 .f32 :=
  k0_pay10 (F := Ideal) (iblk m c 2 t) (k0_pay3 (grid0.coords t) (iblk m c 3 t)) (k0_pay4 (iblk m c 2 t) (w2T m c t)) (w1T m c t) (k0_pay5 (iblk m c 2 t))
    k0_pay6 (k0_pay7 (grid0.coords t) (iblk m c 3 t)) (w0T m c t) (iblk m c 4 t)

theorem pay9_at (a : Vec Ideal S256x512 .f32) (b : FVec Ideal S8x512 .f32) (d : FVec Ideal S256x512 .f32) (e : Vec Ideal S1x512 .f32) (f : FVec Ideal S256x512 .f32)
    (g : IVec S256x512 1) (h : FVec Ideal S1x512 .f32) (k : Vec Ideal S1x512 .f32) (v : Vec Ideal S256x512 .f32) (r : Fin 256) (j : Fin 512) :
    k0_pay9 (F := Ideal) a b d e f g h k v (ix2 r j) = k0_pay8 (F := Ideal) a b d e f g h k (ix2 r j) * v (ix2 r j) := rfl
theorem pay10_at (a : Vec Ideal S256x512 .f32) (b : FVec Ideal S8x512 .f32) (d : FVec Ideal S256x512 .f32) (e : Vec Ideal S1x512 .f32) (f : FVec Ideal S256x512 .f32)
    (g : IVec S256x512 1) (h : FVec Ideal S1x512 .f32) (k : Vec Ideal S1x512 .f32) (v : Vec Ideal S256x512 .f32) (r : Fin 256) (j : Fin 512) :
    k0_pay10 (F := Ideal) a b d e f g h k v (ix2 r j) = k0_pay8 (F := Ideal) a b d e f g h k (ix2 r j) * v (ix2 r j) := rfl

theorem p2_at (r : Fin 256) (j : Fin 512) (i : Fin 4096) (hi : i.val = 256 * t.val + r.val) :
    p2T m c t (ix2 r j) = X5 m c (ix2 i ⟨2048 + j.val, by omega⟩) * Ref2.dvS (X4 m c) (X9 m c) i j := by
  unfold p2T
  rw [pay9_at, dv m c t r j i hi, b5 m c t r j i hi, mul_comm]

theorem p4_at (r : Fin 256) (j : Fin 512) (i : Fin 4096) (hi : i.val = 256 * t.val + r.val) :
    p4T m c t (ix2 r j) = Ref2.dvS (X4 m c) (X9 m c) i j * X5 m c (ix2 i ⟨1024 + j.val, by omega⟩) := by
  unfold p4T
  rw [pay10_at, dv m c t r j i hi, b4 m c t r j i hi]

abbrev R57 := val_main_v57 (F := Ideal) (X2 m c) (X3 m c) (X4 m c) (X5 m c) (X6 m c) (X7 m c) (X9 m c)
abbrev R75 := val_main_v75 (F := Ideal) (X2 m c) (X3 m c) (X4 m c) (X5 m c) (X6 m c) (X7 m c) (X9 m c) (X10 m c)

/-- The gradient of the normalised rows over tile `t`. -/
abbrev D : FVec Ideal S256x1024 .f32 :=
  k0_pay22 (F := Ideal) (iblk m c 7 t)
    (k0_pay20 (iblk m c 1 t) (p2T m c t) (iblk m c 6 t) (p4T m c t) k0_pay11 (k0_pay12 (iblk m c 0 t))
      (View.ld (iblk m c 10 t) (Rect.unit ![0, 0] ![1024, 512] inb_S1024x3072_S1024x512_0_0))
      (View.ld (iblk m c 10 t) (Rect.unit ![0, 512] ![1024, 512] inb_S1024x3072_S1024x512_0_512))
      (View.ld (iblk m c 10 t) (Rect.unit ![0, 1024] ![1024, 512] inb_S1024x3072_S1024x512_0_1024))
      (View.ld (iblk m c 10 t) (Rect.unit ![0, 1536] ![1024, 512] inb_S1024x3072_S1024x512_0_1536))
      (View.ld (iblk m c 10 t) (Rect.unit ![0, 2048] ![1024, 512] inb_S1024x3072_S1024x512_0_2048)))
    (View.ld (iblk m c 10 t) (Rect.unit ![0, 2560] ![1024, 512] inb_S1024x3072_S1024x512_0_2560))

theorem D_at (r : Fin 256) (j : Fin 1024) (i : Fin 4096) (hi : i.val = 256 * t.val + r.val) : D m c t (ix2 r j) = R75 m c (ix2 i j) := by
  unfold D R75
  rw [InTile.dn_tile, Ref2.dn_at, sum_six]
  refine congrArg₂ (· + ·) (congrArg₂ (· + ·) (congrArg₂ (· + ·) (congrArg₂ (· + ·) (congrArg₂ (· + ·) ?_ ?_) ?_) ?_) ?_) ?_
  · refine Finset.sum_congr rfl fun x _ => congrArg₂ (· * ·) ?_ ?_
    · exact (b0 m c t r x i hi).trans (Ref2.dproj_0 _ _ _ _ _ _ _ i x _ (zero_add _).symm).symm
    · blk_point [iblk, V, idx t]
  · refine Finset.sum_congr rfl fun x _ => congrArg₂ (· * ·) ?_ ?_
    · exact (b1 m c t r x i hi).trans (Ref2.dproj_1 _ _ _ _ _ _ _ i x _ rfl).symm
    · blk_point [iblk, V, idx t]
  · refine Finset.sum_congr rfl fun x _ => congrArg₂ (· * ·) ?_ ?_
    · exact (p2_at m c t r x i hi).trans (Ref2.dproj_2 _ _ _ _ _ _ _ i x _ rfl).symm
    · blk_point [iblk, V, idx t]
  · refine Finset.sum_congr rfl fun x _ => congrArg₂ (· * ·) ?_ ?_
    · exact (b6 m c t r x i hi).trans (Ref2.dproj_3 _ _ _ _ _ _ _ i x _ rfl).symm
    · blk_point [iblk, V, idx t]
  · refine Finset.sum_congr rfl fun x _ => congrArg₂ (· * ·) ?_ ?_
    · exact (p4_at m c t r x i hi).trans (Ref2.dproj_4 _ _ _ _ _ _ _ i x _ rfl).symm
    · blk_point [iblk, V, idx t]
  · refine Finset.sum_congr rfl fun x _ => congrArg₂ (· * ·) ?_ ?_
    · exact (b7 m c t r x i hi).trans (Ref2.dproj_5 _ _ _ _ _ _ _ i x _ rfl).symm
    · blk_point [iblk, V, idx t]

theorem ms_of (x : Vec Ideal S1x256x1024 .f32) (X : FVec Ideal S4096x1024 .f32) (r : Fin 256) (i : Fin 4096) (h : ∀ k, x (ix3 0 r k) = X (ix2 i k)) :
    InTile.msT x r = Ref2.ms X i := by
  unfold InTile.msT Ref2.ms
  simp only [h]

abbrev R95 := val_main_v95 (F := Ideal) (X0 m c) (X1 m c) (X2 m c) (X3 m c) (X4 m c) (X5 m c) (X6 m c) (X7 m c) (X8 m c) (X9 m c) (X10 m c)
abbrev R96 := val_main_v96 (F := Ideal) (X2 m c) (X3 m c) (X4 m c) (X5 m c) (X6 m c) (X7 m c) (X9 m c)
abbrev R97 := val_main_v97 (F := Ideal) (X0 m c) (X2 m c) (X3 m c) (X4 m c) (X5 m c) (X6 m c) (X7 m c) (X9 m c) (X10 m c)

theorem gx_of (E : FVec Ideal S256x1024 .f32) (x dh : Vec Ideal S1x256x1024 .f32) (g : Vec Ideal S1x1024 .f32) (r : Fin 256) (j : Fin 1024) (i : Fin 4096)
    (hE : ∀ k, E (ix2 r k) = R75 m c (ix2 i k)) (hx : ∀ k, x (ix3 0 r k) = X0 m c (ix2 i k)) (hd : ∀ k, dh (ix3 0 r k) = X1 m c (ix2 i k))
    (hg : ∀ k, g (ix2 0 k) = X8 m c (ix2 0 k)) :
    k0_pay1 (F := Ideal) (k0_pay24 x) (k0_pay25 x) (k0_pay27 E g) (k0_pay28 dh) (k0_pay29 E x g) (ix2 r j) = R95 m c (ix2 i j) := by
  unfold R95
  rw [InTile.gx_tile, Ref2.gx_at, ms_of x (X0 m c) r i hx]
  simp only [hE, hx, hd, hg]

theorem gx_point (y : S256x1024.Idx) :
    k0_pay1 (F := Ideal) (k0_pay24 (xT m c t)) (k0_pay25 (xT m c t)) (k0_pay27 (D m c t) (iblk m c 8 t)) (k0_pay28 (dhT m c t))
        (k0_pay29 (D m c t) (xT m c t) (iblk m c 8 t)) y
      = R95 m c (((View.whole main_v0_0).slice (win0_11.rect t)).emb y) := by
  have ht := ht16 t
  obtain ⟨r, j, rfl⟩ : ∃ (r : Fin 256) (j : Fin 1024), y = ix2 r j := ⟨y 0, y 1, eq_ix2 y⟩
  refine (gx_of m c _ _ _ _ r j ⟨256 * t.val + r.val, by omega⟩ (fun k => D_at m c t r k _ rfl) (fun k => xT_at m c t r k _ rfl)
    (fun k => dhT_at m c t r k _ rfl) (fun k => b8 m c t 0 k)).trans ?_
  blk_ext [idx t]

theorem final_11 : (dats m 0 c).arrAt 11 (cfgs 0).N = R95 m c := by
  refine (dats m 0 c).arrAt_eq_of_covers 11 _ (by decide +kernel) fun t hf y => ?_
  blk_simp
  rw [after0_11]
  by_cases h0 : t.val % 16 = 0
  · have h1 : t.val < 14 := by have := ht16 t; omega
    rw [outsAt0_A m c t h0 h1]
    frame_out
    exact gx_point m c t y
  · by_cases h1 : t.val < 14
    · rw [outsAt0_B m c t h0 h1]
      frame_out
      exact gx_point m c t y
    · rw [outsAt0_C m c t h0 h1]
      frame_out
      exact gx_point m c t y

theorem st_5 (v : Vec Ideal S256x512 .bf16) (r : Fin 256) (j : Fin 512) : k0_pay21 (F := Ideal) v (ix2 r j) = v (ix2 r j) := by
  pointwise [k0_pay21, k0_pay12, k0_pay15, k0_pay18]
theorem st_4 (v : FVec Ideal S256x512 .f32) (r : Fin 256) (j : Fin 512) : k0_pay19 (F := Ideal) v (ix2 r j) = v (ix2 r j) := by
  pointwise [k0_pay19, k0_pay12, k0_pay15, k0_pay18]
theorem st_3 (v : Vec Ideal S256x512 .bf16) (r : Fin 256) (j : Fin 512) : k0_pay17 (F := Ideal) v (ix2 r j) = v (ix2 r j) := by
  pointwise [k0_pay17, k0_pay12, k0_pay15, k0_pay18]
theorem st_2 (v : FVec Ideal S256x512 .f32) (r : Fin 256) (j : Fin 512) : k0_pay16 (F := Ideal) v (ix2 r j) = v (ix2 r j) := by
  pointwise [k0_pay16, k0_pay12, k0_pay15, k0_pay18]
theorem st_1 (v : Vec Ideal S256x512 .bf16) (r : Fin 256) (j : Fin 512) : k0_pay14 (F := Ideal) v (ix2 r j) = v (ix2 r j) := by
  pointwise [k0_pay14, k0_pay12, k0_pay15, k0_pay18]
theorem st_0 (v : Vec Ideal S256x512 .f32) (r : Fin 256) (j : Fin 512) : k0_pay13 (F := Ideal) v (ix2 r j) = v (ix2 r j) := by
  pointwise [k0_pay13, k0_pay12, k0_pay15, k0_pay18]
theorem piece_5 (r : Fin 256) (j : Fin 512) (i : Fin 4096) (k : Fin 3072) (hi : i.val = 256 * t.val + r.val) (hk : k.val = 2560 + j.val) :
    k0_pay21 (F := Ideal) (iblk m c 7 t) (ix2 r j) = R57 m c (ix2 i k) :=
  (st_5 _ r j).trans ((b7 m c t r j i hi).trans (Ref2.dproj_5 (X2 m c) (X3 m c) (X4 m c) (X5 m c) (X6 m c) (X7 m c) (X9 m c) i j k hk).symm)
theorem piece_4 (r : Fin 256) (j : Fin 512) (i : Fin 4096) (k : Fin 3072) (hi : i.val = 256 * t.val + r.val) (hk : k.val = 2048 + j.val) :
    k0_pay19 (F := Ideal) (p4T m c t) (ix2 r j) = R57 m c (ix2 i k) :=
  (st_4 _ r j).trans ((p4_at m c t r j i hi).trans (Ref2.dproj_4 (X2 m c) (X3 m c) (X4 m c) (X5 m c) (X6 m c) (X7 m c) (X9 m c) i j k hk).symm)
theorem piece_3 (r : Fin 256) (j : Fin 512) (i : Fin 4096) (k : Fin 3072) (hi : i.val = 256 * t.val + r.val) (hk : k.val = 1536 + j.val) :
    k0_pay17 (F := Ideal) (iblk m c 6 t) (ix2 r j) = R57 m c (ix2 i k) :=
  (st_3 _ r j).trans ((b6 m c t r j i hi).trans (Ref2.dproj_3 (X2 m c) (X3 m c) (X4 m c) (X5 m c) (X6 m c) (X7 m c) (X9 m c) i j k hk).symm)
theorem piece_2 (r : Fin 256) (j : Fin 512) (i : Fin 4096) (k : Fin 3072) (hi : i.val = 256 * t.val + r.val) (hk : k.val = 1024 + j.val) :
    k0_pay16 (F := Ideal) (p2T m c t) (ix2 r j) = R57 m c (ix2 i k) :=
  (st_2 _ r j).trans ((p2_at m c t r j i hi).trans (Ref2.dproj_2 (X2 m c) (X3 m c) (X4 m c) (X5 m c) (X6 m c) (X7 m c) (X9 m c) i j k hk).symm)
theorem piece_1 (r : Fin 256) (j : Fin 512) (i : Fin 4096) (k : Fin 3072) (hi : i.val = 256 * t.val + r.val) (hk : k.val = 512 + j.val) :
    k0_pay14 (F := Ideal) (iblk m c 1 t) (ix2 r j) = R57 m c (ix2 i k) :=
  (st_1 _ r j).trans ((b1 m c t r j i hi).trans (Ref2.dproj_1 (X2 m c) (X3 m c) (X4 m c) (X5 m c) (X6 m c) (X7 m c) (X9 m c) i j k hk).symm)
theorem piece_0 (r : Fin 256) (j : Fin 512) (i : Fin 4096) (k : Fin 3072) (hi : i.val = 256 * t.val + r.val) (hk : k.val = j.val) :
    k0_pay13 (F := Ideal) (iblk m c 0 t) (ix2 r j) = R57 m c (ix2 i k) :=
  (st_0 _ r j).trans ((b0 m c t r j i hi).trans (Ref2.dproj_0 (X2 m c) (X3 m c) (X4 m c) (X5 m c) (X6 m c) (X7 m c) (X9 m c) i j k (hk.trans (zero_add _).symm)).symm)

set_option maxHeartbeats 1000000 in
theorem dp_point (y : S256x3072.Idx) :
    View.canon (Val := Elt Ideal) (e := .bf16)
      [⟨Rect.unit (s := S256x3072) ![0, 2560] ![256, 512] inb_S256x3072_S256x512_0_2560, k0_pay21 (F := Ideal) (iblk m c 7 t)⟩,
        ⟨Rect.unit (s := S256x3072) ![0, 2048] ![256, 512] inb_S256x3072_S256x512_0_2048, k0_pay19 (F := Ideal) (p4T m c t)⟩,
        ⟨Rect.unit (s := S256x3072) ![0, 1536] ![256, 512] inb_S256x3072_S256x512_0_1536, k0_pay17 (F := Ideal) (iblk m c 6 t)⟩,
        ⟨Rect.unit (s := S256x3072) ![0, 1024] ![256, 512] inb_S256x3072_S256x512_0_1024, k0_pay16 (F := Ideal) (p2T m c t)⟩,
        ⟨Rect.unit (s := S256x3072) ![0, 512] ![256, 512] inb_S256x3072_S256x512_0_512, k0_pay14 (F := Ideal) (iblk m c 1 t)⟩,
        ⟨Rect.unit (s := S256x3072) ![0, 0] ![256, 512] inb_S256x3072_S256x512_0_0, k0_pay13 (F := Ideal) (iblk m c 0 t)⟩]
      y = R96 m c (((View.whole main_v0_1).slice (win0_12.rect t)).emb y) := by
  have ht := ht16 t
  obtain ⟨i, k, hy, hi, hk⟩ : ∃ (i : Fin 4096) (k : Fin 3072), ((View.whole main_v0_1).slice (win0_12.rect t)).emb y = ix2 i k
      ∧ i.val = 256 * t.val + (y 0).val ∧ k.val = (y 1).val :=
    ⟨⟨256 * t.val + (y 0).val, by have := (y 0).isLt; change (y 0).val < 256 at this; omega⟩, y 1, by blk_ext [idx t], rfl, rfl⟩
  rw [hy]
  have e : R96 m c (ix2 i k) = R57 m c (ix2 i k) := by pointwise [R96, R57, val_main_v96]
  rw [e]
  canon_tiles x h
  · obtain ⟨r, j, rfl⟩ : ∃ (r : Fin 256) (j : Fin 512), x = ix2 r j := ⟨x 0, x 1, eq_ix2 x⟩
    exact piece_5 m c t r j i k (hi.trans (congrArg _ h0)) (hk.trans h1)
  · obtain ⟨r, j, rfl⟩ : ∃ (r : Fin 256) (j : Fin 512), x = ix2 r j := ⟨x 0, x 1, eq_ix2 x⟩
    exact piece_4 m c t r j i k (hi.trans (congrArg _ h0)) (hk.trans h1)
  · obtain ⟨r, j, rfl⟩ : ∃ (r : Fin 256) (j : Fin 512), x = ix2 r j := ⟨x 0, x 1, eq_ix2 x⟩
    exact piece_3 m c t r j i k (hi.trans (congrArg _ h0)) (hk.trans h1)
  · obtain ⟨r, j, rfl⟩ : ∃ (r : Fin 256) (j : Fin 512), x = ix2 r j := ⟨x 0, x 1, eq_ix2 x⟩
    exact piece_2 m c t r j i k (hi.trans (congrArg _ h0)) (hk.trans h1)
  · obtain ⟨r, j, rfl⟩ : ∃ (r : Fin 256) (j : Fin 512), x = ix2 r j := ⟨x 0, x 1, eq_ix2 x⟩
    exact piece_1 m c t r j i k (hi.trans (congrArg _ h0)) (hk.trans h1)
  · obtain ⟨r, j, rfl⟩ : ∃ (r : Fin 256) (j : Fin 512), x = ix2 r j := ⟨x 0, x 1, eq_ix2 x⟩
    exact piece_0 m c t r j i k (hi.trans (congrArg _ h0)) (hk.trans h1)

theorem final_12 : (dats m 0 c).arrAt 12 (cfgs 0).N = R96 m c := by
  refine (dats m 0 c).arrAt_eq_of_covers 12 _ (by decide +kernel) fun t hf y => ?_
  blk_simp
  rw [after0_12]
  by_cases h0 : t.val % 16 = 0
  · have h1 : t.val < 14 := by have := ht16 t; omega
    rw [outsAt0_A m c t h0 h1]
    frame_out
    exact dp_point m c t y
  · by_cases h1 : t.val < 14
    · rw [outsAt0_B m c t h0 h1]
      frame_out
      exact dp_point m c t y
    · rw [outsAt0_C m c t h0 h1]
      frame_out
      exact dp_point m c t y

/-- A sum over the points and their rows is the sum over all the rows. -/
theorem sum_rows (G : Fin cfg0.N → Fin 256 → EReal) (f : Fin 4096 → EReal)
    (h : ∀ (t : Fin cfg0.N) (r : Fin 256) (hl : t.val * 256 + r.val < 4096), G t r = f ⟨t.val * 256 + r.val, hl⟩) :
    ∑ t : Fin cfg0.N, ∑ r : Fin 256, G t r = ∑ i : Fin 4096, f i :=
  Fin.sum_mul_add_congr (fun s k hl => h s k hl) (by rw [show cfg0.N = 16 from N_0])

theorem hzero (j : S8x1024.Idx) : k0_pay2 (F := Ideal) j = 0 := by pointwise [k0_pay2]

theorem hpay (E : FVec Ideal S256x1024 .f32) (x : Vec Ideal S1x256x1024 .f32) (acc : Vec Ideal S8x1024 .f32) (y : S8x1024.Idx) :
    k0_pay26 (F := Ideal) E x acc y = acc y + ∑ r : Fin 256, E (ix2 r (y 1)) * (x (ix3 0 r (y 1)) * Ideal.rsqrt (InTile.msT x r)) := by
  obtain ⟨a, j, rfl⟩ : ∃ (a : Fin 8) (j : Fin 1024), y = ix2 a j := ⟨y 0, y 1, eq_ix2 y⟩
  exact InTile.dg_tile E x acc a j

theorem href (y : S8x1024.Idx) : R97 m c y = ∑ i : Fin 4096, R75 m c (ix2 i (y 1)) * (X0 m c (ix2 i (y 1)) * Ideal.rsqrt (Ref2.ms (X0 m c) i)) := by
  obtain ⟨a, j, rfl⟩ : ∃ (a : Fin 8) (j : Fin 1024), y = ix2 a j := ⟨y 0, y 1, eq_ix2 y⟩
  exact Ref2.dg_at _ _ _ _ _ _ _ _ _ a j

theorem final_13 : (dats m 0 c).arrAt 13 (cfgs 0).N = R97 m c := by
  refine (dats m 0 c).arrAt_eq_of_after_last 13 t0_15 (by decide +kernel) _ fun j => ?_
  blk_simp
  rw [after0_13, Pipeline.eq_sum_fin_of_reset_step_apply_last (fun n h => (outsAt0 m c n h).2.2) 16 (fun _ => 0)
    (fun p j => ∑ r : Fin 256, D m c p (ix2 r (j 1)) * (xT m c p (ix3 0 r (j 1)) * Ideal.rsqrt (InTile.msT (xT m c p) r)))
    (fun t h j => by
      have h1 : t.val < 14 := by have := ht16 t; omega
      rw [outsAt0_A m c t h h1]; frame_out; exact (hpay _ _ _ j).trans (congrArg (· + _) (hzero j)))
    (fun t h j => by
      by_cases h1 : t.val < 14
      · rw [outsAt0_B m c t h h1]; frame_out; exact hpay _ _ _ j
      · rw [outsAt0_C m c t h h1]; frame_out; exact hpay _ _ _ j)
    (le_of_eq N_0) t0_15 rfl j, zero_add]
  rw [href]
  refine sum_rows _ _ fun t r hl => ?_
  have hi : t.val * 256 + r.val = 256 * t.val + r.val := by rw [mul_comm]
  rw [D_at m c t r (j 1) ⟨_, hl⟩ hi, xT_at m c t r (j 1) ⟨_, hl⟩ hi, ms_of (xT m c t) (X0 m c) r ⟨_, hl⟩ fun k => xT_at m c t r k ⟨_, hl⟩ hi]

end Cert.InBwd

end
-- ==== Proof.MixRun.lean ====
/- The body of the mixing call's kernel run once at a point after the first: the text of the printed certificate's run of the
   first point, with the accumulators at what the point before left. -/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken: points 1, 2, … 15: 15 of 16), WITH the
    proof that on whole staging memrefs — the inputs' at their contents, the outputs it reads before covering (21, 22, 23, 24, 25, 26) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S1x1024 .f32) (harg11 : arg11.IsWhole) (arg12 : Memref sig .tc .vmem S1x512 .f32) (harg12 : arg12.IsWhole) (arg13 : Memref sig .tc .vmem S8x512 .f32) (harg13 : arg13.IsWhole) (arg14 : Memref sig .tc .vmem S512x512 .bf16) (harg14 : arg14.IsWhole) (arg15 : Memref sig .tc .vmem S1024x1024 .bf16) (harg15 : arg15.IsWhole) (arg16 : Memref sig .tc .vmem S256x1024 .f32) (harg16 : arg16.IsWhole) (arg17 : Memref sig .tc .vmem S256x512 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .f32) (harg21 : arg21.IsWhole) (arg22 : Memref sig .tc .vmem S1024x1024 .f32) (harg22 : arg22.IsWhole) (arg23 : Memref sig .tc .vmem S512x512 .f32) (harg23 : arg23.IsWhole) (arg24 : Memref sig .tc .vmem S8x128 .f32) (harg24 : arg24.IsWhole) (arg25 : Memref sig .tc .vmem S1x1024 .f32) (harg25 : arg25.IsWhole) (arg26 : Memref sig .tc .vmem S1x512 .f32) (harg26 : arg26.IsWhole) (arg27 : Memref sig .tc .vmem S8x512 .f32) (harg27 : arg27.IsWhole) (hc0 : ¬cond0_0 i)
    (x0 : Vec F S256x1024 .f32) (x1 : Vec F S256x1024 .f32) (x2 : Vec F S256x512 .f32) (x3 : Vec F S256x512 .f32) (x4 : Vec F S256x512 .f32) (x5 : Vec F S256x512 .f32) (x6 : Vec F S256x512 .f32) (x7 : Vec F S256x512 .f32) (x8 : Vec F S8x512 .f32) (x9 : Vec F S8x512 .f32) (x10 : Vec F S1x1024 .f32) (x11 : Vec F S1x512 .f32) (x12 : Vec F S8x512 .f32) (x13 : Vec F S512x512 .bf16) (x14 : Vec F S1024x1024 .bf16) (xo21 : Vec F S1024x1024 .f32) (xo22 : Vec F S512x512 .f32) (xo23 : Vec F S8x128 .f32) (xo24 : Vec F S1x1024 .f32) (xo25 : Vec F S1x512 .f32) (xo26 : Vec F S8x512 .f32) :
    Σ' (L15 : List (View.Piece (Elt F) S256x1024 .f32)), Σ' (L16 : List (View.Piece (Elt F) S256x512 .f32)), Σ' (L17 : List (View.Piece (Elt F) S256x512 .bf16)), Σ' (L18 : List (View.Piece (Elt F) S256x512 .bf16)), Σ' (L19 : List (View.Piece (Elt F) S256x512 .bf16)), Σ' (L20 : List (View.Piece (Elt F) S256x512 .f32)), Σ' (L21 : List (View.Piece (Elt F) S1024x1024 .f32)), Σ' (L22 : List (View.Piece (Elt F) S512x512 .f32)), Σ' (L23 : List (View.Piece (Elt F) S8x128 .f32)), Σ' (L24 : List (View.Piece (Elt F) S1x1024 .f32)), Σ' (L25 : List (View.Piece (Elt F) S1x512 .f32)), { L26 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xo21 ∗ owns (c : Thread nD τ) arg23 fullShare xo22 ∗ owns (c : Thread nD τ) arg24 fullShare xo23 ∗ owns (c : Thread nD τ) arg25 fullShare xo24 ∗ owns (c : Thread nD τ) arg26 fullShare xo25 ∗ owns (c : Thread nD τ) arg27 fullShare xo26
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (arg27.view.loc (c : Thread nD τ) ↦[arg27.view.set]{fullShare} arg27.view.writes (Elt F) (harg27.unread xo26) L26)) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, fun E K => ?run⟩
  case run =>
    simp only [cc0_mix_eq_skeleton]; unfold cc0_mix_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg22.eq_unread hf21; obtain rfl := harg23.eq_unread hf22; obtain rfl := harg24.eq_unread hf23; obtain rfl := harg25.eq_unread hf24; obtain rfl := harg26.eq_unread hf25; obtain rfl := harg27.eq_unread hf26
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexact H26

end Cert.KernelIdeal.Gen

end
-- ==== Proof.MixFrame.lean ====
/- The run of the mixing call's kernel at each of its points, over any floats: what its twelve outputs hold after each
   point, the obligation of its body and, from the library's pipeline, the run of the whole call and its frame. The text
   follows the certificate that the printer of the programs writes for such kernels, with each point's run stated once. -/
module

public import proofs.«01_k».proof.Proof.MixRun
public import Idealize.ShloMosaic.Lib.Claim

@[expose] public section

set_option maxRecDepth 16384

noncomputable section

namespace Cert.MixFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of the twelve outputs' buffers. -/
abbrev Outs (F : FTy → Type) : Type :=
  Vec F S256x1024 .f32 × Vec F S256x512 .f32 × Vec F S256x512 .bf16 × Vec F S256x512 .bf16 × Vec F S256x512 .bf16 × Vec F S256x512 .f32 × Vec F S1024x1024 .f32 × Vec F S512x512 .f32 × Vec F S8x128 .f32 × Vec F S1x1024 .f32 × Vec F S1x512 .f32 × Vec F S8x512 .f32

/-- The first point's run, at its memrefs and its inputs' blocks. -/
def runA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t)
    ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- A later point's run, over what the point before left in the six accumulators. -/
def runB (c : Dev nD) (t : Fin cfg0.N) (h0 : ¬t.val % 16 = 0) (o : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) o.2.2.2.2.2.2.1 o.2.2.2.2.2.2.2.1 o.2.2.2.2.2.2.2.2.1 o.2.2.2.2.2.2.2.2.2.1 o.2.2.2.2.2.2.2.2.2.2.1 o.2.2.2.2.2.2.2.2.2.2.2

/-! What case A leaves in each output: its stores cover the block, and the output is what they read back to. -/

theorem coverA_15 (c : Dev nD) (t : Fin cfg0.N) (h0 : t.val % 16 = 0) (y : S256x1024.Idx) : ∃ pc ∈ (runA m c t h0).1, y ∈ pc.1.set :=
  View.cover_of_tiledL (runA m c t h0).1 S256x1024.size (by sl_kernel_rfl) y

def outA_15 (c : Dev nD) (t : Fin cfg0.N) (h0 : t.val % 16 = 0) : Vec F S256x1024 .f32 :=
  VO0_15.read (Elt F) (VO0_15.writes (Elt F) VO0_15.junk (runA m c t h0).1)

theorem coverA_16 (c : Dev nD) (t : Fin cfg0.N) (h0 : t.val % 16 = 0) (y : S256x512.Idx) : ∃ pc ∈ (runA m c t h0).2.1, y ∈ pc.1.set :=
  View.cover_of_tiledL (runA m c t h0).2.1 S256x512.size (by sl_kernel_rfl) y

def outA_16 (c : Dev nD) (t : Fin cfg0.N) (h0 : t.val % 16 = 0) : Vec F S256x512 .f32 :=
  VO0_16.read (Elt F) (VO0_16.writes (Elt F) VO0_16.junk (runA m c t h0).2.1)

theorem coverA_17 (c : Dev nD) (t : Fin cfg0.N) (h0 : t.val % 16 = 0) (y : S256x512.Idx) : ∃ pc ∈ (runA m c t h0).2.2.1, y ∈ pc.1.set :=
  View.cover_of_tiledL (runA m c t h0).2.2.1 S256x512.size (by sl_kernel_rfl) y

def outA_17 (c : Dev nD) (t : Fin cfg0.N) (h0 : t.val % 16 = 0) : Vec F S256x512 .bf16 :=
  VO0_17.read (Elt F) (VO0_17.writes (Elt F) VO0_17.junk (runA m c t h0).2.2.1)

theorem coverA_18 (c : Dev nD) (t : Fin cfg0.N) (h0 : t.val % 16 = 0) (y : S256x512.Idx) : ∃ pc ∈ (runA m c t h0).2.2.2.1, y ∈ pc.1.set :=
  View.cover_of_tiledL (runA m c t h0).2.2.2.1 S256x512.size (by sl_kernel_rfl) y

def outA_18 (c : Dev nD) (t : Fin cfg0.N) (h0 : t.val % 16 = 0) : Vec F S256x512 .bf16 :=
  VO0_18.read (Elt F) (VO0_18.writes (Elt F) VO0_18.junk (runA m c t h0).2.2.2.1)

theorem coverA_19 (c : Dev nD) (t : Fin cfg0.N) (h0 : t.val % 16 = 0) (y : S256x512.Idx) : ∃ pc ∈ (runA m c t h0).2.2.2.2.1, y ∈ pc.1.set :=
  View.cover_of_tiledL (runA m c t h0).2.2.2.2.1 S256x512.size (by sl_kernel_rfl) y

def outA_19 (c : Dev nD) (t : Fin cfg0.N) (h0 : t.val % 16 = 0) : Vec F S256x512 .bf16 :=
  VO0_19.read (Elt F) (VO0_19.writes (Elt F) VO0_19.junk (runA m c t h0).2.2.2.2.1)

theorem coverA_20 (c : Dev nD) (t : Fin cfg0.N) (h0 : t.val % 16 = 0) (y : S256x512.Idx) : ∃ pc ∈ (runA m c t h0).2.2.2.2.2.1, y ∈ pc.1.set :=
  View.cover_of_tiledL (runA m c t h0).2.2.2.2.2.1 S256x512.size (by sl_kernel_rfl) y

def outA_20 (c : Dev nD) (t : Fin cfg0.N) (h0 : t.val % 16 = 0) : Vec F S256x512 .f32 :=
  VO0_20.read (Elt F) (VO0_20.writes (Elt F) VO0_20.junk (runA m c t h0).2.2.2.2.2.1)

theorem coverA_21 (c : Dev nD) (t : Fin cfg0.N) (h0 : t.val % 16 = 0) (y : S1024x1024.Idx) : ∃ pc ∈ (runA m c t h0).2.2.2.2.2.2.1, y ∈ pc.1.set :=
  View.cover_of_tiledL (runA m c t h0).2.2.2.2.2.2.1 S1024x1024.size (by sl_kernel_rfl) y

def outA_21 (c : Dev nD) (t : Fin cfg0.N) (h0 : t.val % 16 = 0) : Vec F S1024x1024 .f32 :=
  VO0_21.read (Elt F) (VO0_21.writes (Elt F) VO0_21.junk (runA m c t h0).2.2.2.2.2.2.1)

theorem coverA_22 (c : Dev nD) (t : Fin cfg0.N) (h0 : t.val % 16 = 0) (y : S512x512.Idx) : ∃ pc ∈ (runA m c t h0).2.2.2.2.2.2.2.1, y ∈ pc.1.set :=
  View.cover_of_tiledL (runA m c t h0).2.2.2.2.2.2.2.1 S512x512.size (by sl_kernel_rfl) y

def outA_22 (c : Dev nD) (t : Fin cfg0.N) (h0 : t.val % 16 = 0) : Vec F S512x512 .f32 :=
  VO0_22.read (Elt F) (VO0_22.writes (Elt F) VO0_22.junk (runA m c t h0).2.2.2.2.2.2.2.1)

theorem coverA_23 (c : Dev nD) (t : Fin cfg0.N) (h0 : t.val % 16 = 0) (y : S8x128.Idx) : ∃ pc ∈ (runA m c t h0).2.2.2.2.2.2.2.2.1, y ∈ pc.1.set :=
  View.cover_of_tiledL (runA m c t h0).2.2.2.2.2.2.2.2.1 S8x128.size (by sl_kernel_rfl) y

def outA_23 (c : Dev nD) (t : Fin cfg0.N) (h0 : t.val % 16 = 0) : Vec F S8x128 .f32 :=
  VO0_23.read (Elt F) (VO0_23.writes (Elt F) VO0_23.junk (runA m c t h0).2.2.2.2.2.2.2.2.1)

theorem coverA_24 (c : Dev nD) (t : Fin cfg0.N) (h0 : t.val % 16 = 0) (y : S1x1024.Idx) : ∃ pc ∈ (runA m c t h0).2.2.2.2.2.2.2.2.2.1, y ∈ pc.1.set :=
  View.cover_of_tiledL (runA m c t h0).2.2.2.2.2.2.2.2.2.1 S1x1024.size (by sl_kernel_rfl) y

def outA_24 (c : Dev nD) (t : Fin cfg0.N) (h0 : t.val % 16 = 0) : Vec F S1x1024 .f32 :=
  VO0_24.read (Elt F) (VO0_24.writes (Elt F) VO0_24.junk (runA m c t h0).2.2.2.2.2.2.2.2.2.1)

theorem coverA_25 (c : Dev nD) (t : Fin cfg0.N) (h0 : t.val % 16 = 0) (y : S1x512.Idx) : ∃ pc ∈ (runA m c t h0).2.2.2.2.2.2.2.2.2.2.1, y ∈ pc.1.set :=
  View.cover_of_tiledL (runA m c t h0).2.2.2.2.2.2.2.2.2.2.1 S1x512.size (by sl_kernel_rfl) y

def outA_25 (c : Dev nD) (t : Fin cfg0.N) (h0 : t.val % 16 = 0) : Vec F S1x512 .f32 :=
  VO0_25.read (Elt F) (VO0_25.writes (Elt F) VO0_25.junk (runA m c t h0).2.2.2.2.2.2.2.2.2.2.1)

theorem coverA_26 (c : Dev nD) (t : Fin cfg0.N) (h0 : t.val % 16 = 0) (y : S8x512.Idx) : ∃ pc ∈ (runA m c t h0).2.2.2.2.2.2.2.2.2.2.2.1, y ∈ pc.1.set :=
  View.cover_of_tiledL (runA m c t h0).2.2.2.2.2.2.2.2.2.2.2.1 S8x512.size (by sl_kernel_rfl) y

def outA_26 (c : Dev nD) (t : Fin cfg0.N) (h0 : t.val % 16 = 0) : Vec F S8x512 .f32 :=
  VO0_26.read (Elt F) (VO0_26.writes (Elt F) VO0_26.junk (runA m c t h0).2.2.2.2.2.2.2.2.2.2.2.1)

/-! What case B leaves in each output: its stores cover the block, and the output is what they read back to. -/

theorem coverB_15 (c : Dev nD) (t : Fin cfg0.N) (h0 : ¬t.val % 16 = 0) (o : Outs F) (y : S256x1024.Idx) : ∃ pc ∈ (runB m c t h0 o).1, y ∈ pc.1.set :=
  View.cover_of_tiledL (runB m c t h0 o).1 S256x1024.size (by sl_kernel_rfl) y

def outB_15 (c : Dev nD) (t : Fin cfg0.N) (h0 : ¬t.val % 16 = 0) (o : Outs F) : Vec F S256x1024 .f32 :=
  VO0_15.read (Elt F) (VO0_15.writes (Elt F) VO0_15.junk (runB m c t h0 o).1)

theorem coverB_16 (c : Dev nD) (t : Fin cfg0.N) (h0 : ¬t.val % 16 = 0) (o : Outs F) (y : S256x512.Idx) : ∃ pc ∈ (runB m c t h0 o).2.1, y ∈ pc.1.set :=
  View.cover_of_tiledL (runB m c t h0 o).2.1 S256x512.size (by sl_kernel_rfl) y

def outB_16 (c : Dev nD) (t : Fin cfg0.N) (h0 : ¬t.val % 16 = 0) (o : Outs F) : Vec F S256x512 .f32 :=
  VO0_16.read (Elt F) (VO0_16.writes (Elt F) VO0_16.junk (runB m c t h0 o).2.1)

theorem coverB_17 (c : Dev nD) (t : Fin cfg0.N) (h0 : ¬t.val % 16 = 0) (o : Outs F) (y : S256x512.Idx) : ∃ pc ∈ (runB m c t h0 o).2.2.1, y ∈ pc.1.set :=
  View.cover_of_tiledL (runB m c t h0 o).2.2.1 S256x512.size (by sl_kernel_rfl) y

def outB_17 (c : Dev nD) (t : Fin cfg0.N) (h0 : ¬t.val % 16 = 0) (o : Outs F) : Vec F S256x512 .bf16 :=
  VO0_17.read (Elt F) (VO0_17.writes (Elt F) VO0_17.junk (runB m c t h0 o).2.2.1)

theorem coverB_18 (c : Dev nD) (t : Fin cfg0.N) (h0 : ¬t.val % 16 = 0) (o : Outs F) (y : S256x512.Idx) : ∃ pc ∈ (runB m c t h0 o).2.2.2.1, y ∈ pc.1.set :=
  View.cover_of_tiledL (runB m c t h0 o).2.2.2.1 S256x512.size (by sl_kernel_rfl) y

def outB_18 (c : Dev nD) (t : Fin cfg0.N) (h0 : ¬t.val % 16 = 0) (o : Outs F) : Vec F S256x512 .bf16 :=
  VO0_18.read (Elt F) (VO0_18.writes (Elt F) VO0_18.junk (runB m c t h0 o).2.2.2.1)

theorem coverB_19 (c : Dev nD) (t : Fin cfg0.N) (h0 : ¬t.val % 16 = 0) (o : Outs F) (y : S256x512.Idx) : ∃ pc ∈ (runB m c t h0 o).2.2.2.2.1, y ∈ pc.1.set :=
  View.cover_of_tiledL (runB m c t h0 o).2.2.2.2.1 S256x512.size (by sl_kernel_rfl) y

def outB_19 (c : Dev nD) (t : Fin cfg0.N) (h0 : ¬t.val % 16 = 0) (o : Outs F) : Vec F S256x512 .bf16 :=
  VO0_19.read (Elt F) (VO0_19.writes (Elt F) VO0_19.junk (runB m c t h0 o).2.2.2.2.1)

theorem coverB_20 (c : Dev nD) (t : Fin cfg0.N) (h0 : ¬t.val % 16 = 0) (o : Outs F) (y : S256x512.Idx) : ∃ pc ∈ (runB m c t h0 o).2.2.2.2.2.1, y ∈ pc.1.set :=
  View.cover_of_tiledL (runB m c t h0 o).2.2.2.2.2.1 S256x512.size (by sl_kernel_rfl) y

def outB_20 (c : Dev nD) (t : Fin cfg0.N) (h0 : ¬t.val % 16 = 0) (o : Outs F) : Vec F S256x512 .f32 :=
  VO0_20.read (Elt F) (VO0_20.writes (Elt F) VO0_20.junk (runB m c t h0 o).2.2.2.2.2.1)

theorem coverB_21 (c : Dev nD) (t : Fin cfg0.N) (h0 : ¬t.val % 16 = 0) (o : Outs F) (y : S1024x1024.Idx) : ∃ pc ∈ (runB m c t h0 o).2.2.2.2.2.2.1, y ∈ pc.1.set :=
  View.cover_of_tiledL (runB m c t h0 o).2.2.2.2.2.2.1 S512x1024.size (by sl_kernel_rfl) y

def outB_21 (c : Dev nD) (t : Fin cfg0.N) (h0 : ¬t.val % 16 = 0) (o : Outs F) : Vec F S1024x1024 .f32 :=
  VO0_21.read (Elt F) (VO0_21.writes (Elt F) VO0_21.junk (runB m c t h0 o).2.2.2.2.2.2.1)

theorem coverB_22 (c : Dev nD) (t : Fin cfg0.N) (h0 : ¬t.val % 16 = 0) (o : Outs F) (y : S512x512.Idx) : ∃ pc ∈ (runB m c t h0 o).2.2.2.2.2.2.2.1, y ∈ pc.1.set :=
  View.cover_of_tiledL (runB m c t h0 o).2.2.2.2.2.2.2.1 S512x512.size (by sl_kernel_rfl) y

def outB_22 (c : Dev nD) (t : Fin cfg0.N) (h0 : ¬t.val % 16 = 0) (o : Outs F) : Vec F S512x512 .f32 :=
  VO0_22.read (Elt F) (VO0_22.writes (Elt F) VO0_22.junk (runB m c t h0 o).2.2.2.2.2.2.2.1)

theorem coverB_23 (c : Dev nD) (t : Fin cfg0.N) (h0 : ¬t.val % 16 = 0) (o : Outs F) (y : S8x128.Idx) : ∃ pc ∈ (runB m c t h0 o).2.2.2.2.2.2.2.2.1, y ∈ pc.1.set :=
  View.cover_of_tiledL (runB m c t h0 o).2.2.2.2.2.2.2.2.1 S8x128.size (by sl_kernel_rfl) y

def outB_23 (c : Dev nD) (t : Fin cfg0.N) (h0 : ¬t.val % 16 = 0) (o : Outs F) : Vec F S8x128 .f32 :=
  VO0_23.read (Elt F) (VO0_23.writes (Elt F) VO0_23.junk (runB m c t h0 o).2.2.2.2.2.2.2.2.1)

theorem coverB_24 (c : Dev nD) (t : Fin cfg0.N) (h0 : ¬t.val % 16 = 0) (o : Outs F) (y : S1x1024.Idx) : ∃ pc ∈ (runB m c t h0 o).2.2.2.2.2.2.2.2.2.1, y ∈ pc.1.set :=
  View.cover_of_tiledL (runB m c t h0 o).2.2.2.2.2.2.2.2.2.1 S1x1024.size (by sl_kernel_rfl) y

def outB_24 (c : Dev nD) (t : Fin cfg0.N) (h0 : ¬t.val % 16 = 0) (o : Outs F) : Vec F S1x1024 .f32 :=
  VO0_24.read (Elt F) (VO0_24.writes (Elt F) VO0_24.junk (runB m c t h0 o).2.2.2.2.2.2.2.2.2.1)

theorem coverB_25 (c : Dev nD) (t : Fin cfg0.N) (h0 : ¬t.val % 16 = 0) (o : Outs F) (y : S1x512.Idx) : ∃ pc ∈ (runB m c t h0 o).2.2.2.2.2.2.2.2.2.2.1, y ∈ pc.1.set :=
  View.cover_of_tiledL (runB m c t h0 o).2.2.2.2.2.2.2.2.2.2.1 S1x512.size (by sl_kernel_rfl) y

def outB_25 (c : Dev nD) (t : Fin cfg0.N) (h0 : ¬t.val % 16 = 0) (o : Outs F) : Vec F S1x512 .f32 :=
  VO0_25.read (Elt F) (VO0_25.writes (Elt F) VO0_25.junk (runB m c t h0 o).2.2.2.2.2.2.2.2.2.2.1)

/-- The gradient of the taps is added to in three of its rows: the rest of the block is as the point before left it. -/
def outB_26 (c : Dev nD) (t : Fin cfg0.N) (h0 : ¬t.val % 16 = 0) (o : Outs F) : Vec F S8x512 .f32 :=
  (ms0_26 t).view.read (Elt F) ((ms0_26 t).view.writes (Elt F) ((hs0_26 t).unread (o.2.2.2.2.2.2.2.2.2.2.2)) (runB m c t h0 o).2.2.2.2.2.2.2.2.2.2.2.1)

/-- All twelve after the first point, and after a later one. -/
def allA (c : Dev nD) (t : Fin cfg0.N) (h0 : t.val % 16 = 0) : Outs F :=
  (outA_15 m c t h0, outA_16 m c t h0, outA_17 m c t h0, outA_18 m c t h0, outA_19 m c t h0, outA_20 m c t h0, outA_21 m c t h0, outA_22 m c t h0, outA_23 m c t h0, outA_24 m c t h0, outA_25 m c t h0, outA_26 m c t h0)

def allB (c : Dev nD) (t : Fin cfg0.N) (h0 : ¬t.val % 16 = 0) (o : Outs F) : Outs F :=
  (outB_15 m c t h0 o, outB_16 m c t h0 o, outB_17 m c t h0 o, outB_18 m c t h0 o, outB_19 m c t h0 o, outB_20 m c t h0 o, outB_21 m c t h0 o, outB_22 m c t h0 o, outB_23 m c t h0 o, outB_24 m c t h0 o, outB_25 m c t h0 o, outB_26 m c t h0 o)

/-- What the outputs' buffers hold after the body at point `n`. -/
def outsAt0 (c : Dev nD) : (n : ℕ) → n < cfg0.N → Outs F
  | 0, hn => allA m c ⟨0, hn⟩ (Nat.zero_mod 16)
  | n + 1, hn =>
    if h0 : (n + 1) % 16 = 0 then allA m c ⟨n + 1, hn⟩ h0
    else allB m c ⟨n + 1, hn⟩ h0 (outsAt0 c n (Nat.lt_of_succ_lt hn))

theorem outsAt0_A (c : Dev nD) (t : Fin cfg0.N) (h0 : t.val % 16 = 0) :
    outsAt0 m c t.val t.isLt = allA m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt
      = allB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- The arrays as the call finds them; after a point each input at its block and the outputs at `outsAt0`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨21, _⟩ => (outsAt0 m c t.val t.isLt).2.2.2.2.2.2.1
    | ⟨22, _⟩ => (outsAt0 m c t.val t.isLt).2.2.2.2.2.2.2.1
    | ⟨23, _⟩ => (outsAt0 m c t.val t.isLt).2.2.2.2.2.2.2.2.1
    | ⟨24, _⟩ => (outsAt0 m c t.val t.isLt).2.2.2.2.2.2.2.2.2.1
    | ⟨25, _⟩ => (outsAt0 m c t.val t.isLt).2.2.2.2.2.2.2.2.2.2.1
    | ⟨26, _⟩ => (outsAt0 m c t.val t.isLt).2.2.2.2.2.2.2.2.2.2.2
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]
theorem after0_21 (c : Dev nD) (t : Fin cfg0.N) : (dats m 0 c).after 21 t = (outsAt0 m c t.val t.isLt).2.2.2.2.2.2.1 := by dsimp only [dats]
theorem after0_22 (c : Dev nD) (t : Fin cfg0.N) : (dats m 0 c).after 22 t = (outsAt0 m c t.val t.isLt).2.2.2.2.2.2.2.1 := by dsimp only [dats]
theorem after0_23 (c : Dev nD) (t : Fin cfg0.N) : (dats m 0 c).after 23 t = (outsAt0 m c t.val t.isLt).2.2.2.2.2.2.2.2.1 := by dsimp only [dats]
theorem after0_24 (c : Dev nD) (t : Fin cfg0.N) : (dats m 0 c).after 24 t = (outsAt0 m c t.val t.isLt).2.2.2.2.2.2.2.2.2.1 := by dsimp only [dats]
theorem after0_25 (c : Dev nD) (t : Fin cfg0.N) : (dats m 0 c).after 25 t = (outsAt0 m c t.val t.isLt).2.2.2.2.2.2.2.2.2.2.1 := by dsimp only [dats]
theorem after0_26 (c : Dev nD) (t : Fin cfg0.N) : (dats m 0 c).after 26 t = (outsAt0 m c t.val t.isLt).2.2.2.2.2.2.2.2.2.2.2 := by dsimp only [dats]

/-! Each input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! At a later point an accumulator's buffer holds what the point before left: it was not written back between. -/

theorem before0_21_B (c : Dev nD) (t : Fin cfg0.N) (h0 : ¬t.val % 16 = 0) (d) : (dats m 0 c).before 21 t d
      = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 21 rfl t (by omega)
    (Bool.eq_false_iff.mpr fun h => by have := (flush0_21 _).mp h; dsimp only at this; omega) (fun _ => rfl) (fun _ _ => rfl)]
  dsimp only [dats]
theorem before0_22_B (c : Dev nD) (t : Fin cfg0.N) (h0 : ¬t.val % 16 = 0) (d) : (dats m 0 c).before 22 t d
      = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 22 rfl t (by omega)
    (Bool.eq_false_iff.mpr fun h => by have := (flush0_22 _).mp h; dsimp only at this; omega) (fun _ => rfl) (fun _ _ => rfl)]
  dsimp only [dats]
theorem before0_23_B (c : Dev nD) (t : Fin cfg0.N) (h0 : ¬t.val % 16 = 0) (d) : (dats m 0 c).before 23 t d
      = (outsAt0 m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 23 rfl t (by omega)
    (Bool.eq_false_iff.mpr fun h => by have := (flush0_23 _).mp h; dsimp only at this; omega) (fun _ => rfl) (fun _ _ => rfl)]
  dsimp only [dats]
theorem before0_24_B (c : Dev nD) (t : Fin cfg0.N) (h0 : ¬t.val % 16 = 0) (d) : (dats m 0 c).before 24 t d
      = (outsAt0 m c (t.val - 1) (Nat.lt_of_le_of_lt (Nat.sub_le _ _) t.isLt)).2.2.2.2.2.2.2.2.2.1 := by
  have hN : t.val < 16 := lt_of_lt_of_eq t.isLt (show cfg0.N = 16 from N_0)
  rw [Dat.before_out_kept _ 24 rfl t (by omega)
    (Bool.eq_false_iff.mpr fun h => by have := (flush0_24 _).mp h; dsimp only at this; omega) (fun _ => rfl) (fun _ _ => rfl)]
  dsimp only [dats]
theorem before0_25_B (c : Dev nD) (t : Fin cfg0.N) (h0 : ¬t.val % 16 = 0) (d) : (dats m 0 c).before 25 t d
      = (outsAt0 m c (t.val - 1) (Nat.lt_of_le_of_lt (Nat.sub_le _ _) t.isLt)).2.2.2.2.2.2.2.2.2.2.1 := by
  have hN : t.val < 16 := lt_of_lt_of_eq t.isLt (show cfg0.N = 16 from N_0)
  rw [Dat.before_out_kept _ 25 rfl t (by omega)
    (Bool.eq_false_iff.mpr fun h => by have := (flush0_25 _).mp h; dsimp only at this; omega) (fun _ => rfl) (fun _ _ => rfl)]
  dsimp only [dats]
theorem before0_26_B (c : Dev nD) (t : Fin cfg0.N) (h0 : ¬t.val % 16 = 0) (d) : (dats m 0 c).before 26 t d
      = (outsAt0 m c (t.val - 1) (Nat.lt_of_le_of_lt (Nat.sub_le _ _) t.isLt)).2.2.2.2.2.2.2.2.2.2.2 := by
  have hN : t.val < 16 := lt_of_lt_of_eq t.isLt (show cfg0.N = 16 from N_0)
  rw [Dat.before_out_kept _ 26 rfl t (by omega)
    (Bool.eq_false_iff.mpr fun h => by have := (flush0_26 _).mp h; dsimp only at this; omega) (fun _ => rfl) (fun _ _ => rfl)]
  dsimp only [dats]

/-! ## The body at one point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 4800000 in
/-- The body at any point: the inputs' buffers hold their blocks, and the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  have hN : t.val < 16 := lt_of_lt_of_eq t.isLt (show cfg0.N = 16 from N_0)
  by_cases h0 : t.val % 16 = 0
  · rw [outsAt0_A m c t h0]
    unfold allA outA_15 outA_16 outA_17 outA_18 outA_19 outA_20 outA_21 outA_22 outA_23 outA_24 outA_25 outA_26; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((runA m c t h0).2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverA_15 m c t h0)
    isplitl [H16]
    · unfold owns; iexists _; isplitr
      swap; · iexact H16
      ipureintro; exact View.read_writes_of_cover _ _ _ _ _ (coverA_16 m c t h0)
    isplitl [H17]
    · unfold owns; iexists _; isplitr
      swap; · iexact H17
      ipureintro; exact View.read_writes_of_cover _ _ _ _ _ (coverA_17 m c t h0)
    isplitl [H18]
    · unfold owns; iexists _; isplitr
      swap; · iexact H18
      ipureintro; exact View.read_writes_of_cover _ _ _ _ _ (coverA_18 m c t h0)
    isplitl [H19]
    · unfold owns; iexists _; isplitr
      swap; · iexact H19
      ipureintro; exact View.read_writes_of_cover _ _ _ _ _ (coverA_19 m c t h0)
    isplitl [H20]
    · unfold owns; iexists _; isplitr
      swap; · iexact H20
      ipureintro; exact View.read_writes_of_cover _ _ _ _ _ (coverA_20 m c t h0)
    isplitl [H21]
    · unfold owns; iexists _; isplitr
      swap; · iexact H21
      ipureintro; exact View.read_writes_of_cover _ _ _ _ _ (coverA_21 m c t h0)
    isplitl [H22]
    · unfold owns; iexists _; isplitr
      swap; · iexact H22
      ipureintro; exact View.read_writes_of_cover _ _ _ _ _ (coverA_22 m c t h0)
    isplitl [H23]
    · unfold owns; iexists _; isplitr
      swap; · iexact H23
      ipureintro; exact View.read_writes_of_cover _ _ _ _ _ (coverA_23 m c t h0)
    isplitl [H24]
    · unfold owns; iexists _; isplitr
      swap; · iexact H24
      ipureintro; exact View.read_writes_of_cover _ _ _ _ _ (coverA_24 m c t h0)
    isplitl [H25]
    · unfold owns; iexists _; isplitr
      swap; · iexact H25
      ipureintro; exact View.read_writes_of_cover _ _ _ _ _ (coverA_25 m c t h0)
    unfold owns; iexists _; isplitr
    swap; · iexact H26
    ipureintro; exact View.read_writes_of_cover _ _ _ _ _ (coverA_26 m c t h0)
  · rw [outsAt0_B m c t h0]
    simp only [before0_21_B m c t h0, before0_22_B m c t h0, before0_23_B m c t h0, before0_24_B m c t h0, before0_25_B m c t h0, before0_26_B m c t h0]
    unfold allB outB_15 outB_16 outB_17 outB_18 outB_19 outB_20 outB_21 outB_22 outB_23 outB_24 outB_25 outB_26; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((runB m c t h0 (outsAt0 m c (t.val - 1) (Nat.lt_of_le_of_lt (Nat.sub_le _ _) t.isLt))).2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    isplitl [H25]; · iexact H25
    isplitl [H26]; · iexact H26
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, H26⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (coverB_15 m c t h0 _)
    isplitl [H16]
    · unfold owns; iexists _; isplitr
      swap; · iexact H16
      ipureintro; exact View.read_writes_of_cover _ _ _ _ _ (coverB_16 m c t h0 _)
    isplitl [H17]
    · unfold owns; iexists _; isplitr
      swap; · iexact H17
      ipureintro; exact View.read_writes_of_cover _ _ _ _ _ (coverB_17 m c t h0 _)
    isplitl [H18]
    · unfold owns; iexists _; isplitr
      swap; · iexact H18
      ipureintro; exact View.read_writes_of_cover _ _ _ _ _ (coverB_18 m c t h0 _)
    isplitl [H19]
    · unfold owns; iexists _; isplitr
      swap; · iexact H19
      ipureintro; exact View.read_writes_of_cover _ _ _ _ _ (coverB_19 m c t h0 _)
    isplitl [H20]
    · unfold owns; iexists _; isplitr
      swap; · iexact H20
      ipureintro; exact View.read_writes_of_cover _ _ _ _ _ (coverB_20 m c t h0 _)
    isplitl [H21]
    · unfold owns; iexists _; isplitr
      swap; · iexact H21
      ipureintro; exact View.read_writes_of_cover _ _ _ _ _ (coverB_21 m c t h0 _)
    isplitl [H22]
    · unfold owns; iexists _; isplitr
      swap; · iexact H22
      ipureintro; exact View.read_writes_of_cover _ _ _ _ _ (coverB_22 m c t h0 _)
    isplitl [H23]
    · unfold owns; iexists _; isplitr
      swap; · iexact H23
      ipureintro; exact View.read_writes_of_cover _ _ _ _ _ (coverB_23 m c t h0 _)
    isplitl [H24]
    · unfold owns; iexists _; isplitr
      swap; · iexact H24
      ipureintro; exact View.read_writes_of_cover _ _ _ _ _ (coverB_24 m c t h0 _)
    isplitl [H25]
    · unfold owns; iexists _; isplitr
      swap; · iexact H25
      ipureintro; exact View.read_writes_of_cover _ _ _ _ _ (coverB_25 m c t h0 _)
    unfold owns; iexists _; isplitr
    swap; · iexact H26
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.MixFrame

end
-- ==== Proof.MixMath.lean ====
/- The tail of the layer and its backward, one token at a time: the kernel's form and the reference's, and the equalities
   between them on real arguments. -/
module

public import proofs.«01_k».proof.Proof.Alg

@[expose] public section

noncomputable section

namespace Cert.Mix

open Idealize.ShloMosaic

/-! Scalars. -/

/-- The word of the square root of two over pi, and the three normalization constants. -/
def cC : EReal := Ideal.ofBits .f32 0x3F4C422A#32
def half : EReal := Ideal.ofBits .f32 0x3F000000#32
def n1024 : EReal := Ideal.ofBits .f32 0x44800000#32
def i1024 : EReal := Ideal.ofBits .f32 0x3A800000#32
def eps : EReal := Ideal.ofBits .f32 0x358637BD#32
/-- 0.044715 and three times it. -/
def cub : EReal := ((8943 / 200000 : ℝ) : EReal)
def slope : EReal := ((26829 / 200000 : ℝ) : EReal)

def sig (z : EReal) : EReal := Ideal.div 1 (1 + Ideal.exp (0 - z))
def dsilu (z : EReal) : EReal := sig z * (1 + z * (1 - sig z))
def th (y : EReal) : EReal := Ideal.tanh (cC * (y + cub * (y * y * y)))
def gelu (y : EReal) : EReal := half * y * (1 + th y)
def dgelu (y : EReal) : EReal := half * (1 + th y) + half * y * (1 - th y * th y) * (cC * (1 + slope * (y * y)))

/-- One token's inputs: its rows, the convolution's input `v` and that of the one and of the two tokens before. -/
structure Row where
  x : Fin 1024 → EReal
  t : Fin 1024 → EReal
  y : Fin 512 → EReal
  zs : Fin 512 → EReal
  bc : Fin 512 → EReal
  zc : Fin 512 → EReal
  v : Fin 512 → EReal
  v1 : Fin 512 → EReal
  v2 : Fin 512 → EReal

/-- The weights: gain, bias, the convolution's taps, the two matrices. -/
structure Wts where
  gf : Fin 1024 → EReal
  bg : Fin 512 → EReal
  w0 : Fin 512 → EReal
  w1 : Fin 512 → EReal
  w2 : Fin 512 → EReal
  wg : Fin 512 → Fin 512 → EReal
  woS : Fin 512 → Fin 1024 → EReal
  woC : Fin 512 → Fin 1024 → EReal

variable (W : Wts) (R : Row)

/-! The kernel's form. -/

def gate (j : Fin 512) : EReal := sig ((∑ k, gelu (R.y k) * W.wg k j) + W.bg j)
def y2 (j : Fin 512) : EReal := gelu (R.y j) * gate W R j
def yssm (j : Fin 512) : EReal := y2 W R j * (R.zs j * sig (R.zs j))
def yc (j : Fin 512) : EReal := W.w0 j * R.v2 j + W.w1 j * R.v1 j + W.w2 j * R.v j
def yconv (j : Fin 512) : EReal := R.bc j * yc W R j * (R.zc j * sig (R.zc j))
def h2 (j : Fin 1024) : EReal := R.x j + (∑ k, yssm W R k * W.woS k j) + ∑ k, yconv W R k * W.woC k j
def ms : EReal := Ideal.div (∑ k, h2 W R k * h2 W R k) n1024 + eps
def rr : EReal := Ideal.rsqrt (ms W R)
def hn (j : Fin 1024) : EReal := h2 W R j * rr W R
def err (j : Fin 1024) : EReal := hn W R j * W.gf j - R.t j
def rowLoss : EReal := Ideal.div (∑ k, err W R k * err W R k) n1024
def dout (j : Fin 1024) : EReal := err W R j * i1024
def dh2 (j : Fin 1024) : EReal :=
  rr W R * (dout W R j * W.gf j - hn W R j * Ideal.div (∑ k, dout W R k * W.gf k * hn W R k) n1024)
def dyssm (k : Fin 512) : EReal := ∑ j, dh2 W R j * W.woS k j
def dyconv (k : Fin 512) : EReal := ∑ j, dh2 W R j * W.woC k j
def dzs (k : Fin 512) : EReal := dyssm W R k * y2 W R k * dsilu (R.zs k)
def dy2 (k : Fin 512) : EReal := dyssm W R k * (R.zs k * sig (R.zs k))
def dgp (k : Fin 512) : EReal := dy2 W R k * gelu (R.y k) * (gate W R k * (1 - gate W R k))
def dy1 (k : Fin 512) : EReal := dy2 W R k * gate W R k + ∑ j, dgp W R j * W.wg k j
def dy (k : Fin 512) : EReal := dy1 W R k * dgelu (R.y k)
def dbc (k : Fin 512) : EReal := dyconv W R k * yc W R k * (R.zc k * sig (R.zc k))
def dyc (k : Fin 512) : EReal := dyconv W R k * R.bc k * (R.zc k * sig (R.zc k))
def dzc (k : Fin 512) : EReal := dyconv W R k * R.bc k * yc W R k * dsilu (R.zc k)

/-! Real numbers among the extended reals. -/

def IsR (x : EReal) : Prop := ∃ r : ℝ, x = (r : EReal)

namespace IsR
variable {a b : EReal}
theorem zero : IsR 0 := ⟨0, rfl⟩
theorem one : IsR 1 := ⟨1, rfl⟩
theorem add : IsR a → IsR b → IsR (a + b) := fun ⟨r, hr⟩ ⟨s, hs⟩ => ⟨r + s, by rw [hr, hs, EReal.coe_add]⟩
theorem mul : IsR a → IsR b → IsR (a * b) := fun ⟨r, hr⟩ ⟨s, hs⟩ => ⟨r * s, by rw [hr, hs, EReal.coe_mul]⟩
theorem sub : IsR a → IsR b → IsR (a - b) := fun ⟨r, hr⟩ ⟨s, hs⟩ => ⟨r - s, by rw [hr, hs, EReal.coe_sub]⟩
theorem sum {ι : Type} [Fintype ι] {f : ι → EReal} (h : ∀ i, IsR (f i)) : IsR (∑ i, f i) := by
  classical
  have : ∀ s : Finset ι, IsR (∑ i ∈ s, f i) := fun s => by
    induction s using Finset.induction_on with
    | empty => simpa using zero
    | insert a s ha ih => rw [Finset.sum_insert ha]; exact (h a).add ih
  exact this _
end IsR

theorem isR_half : IsR half := ⟨_, Alg.ofBits_half⟩
theorem isR_i1024 : IsR i1024 := ⟨_, Alg.ofBits_inv1024⟩
theorem isR_cC : IsR cC := ⟨(13386282 / 16777216 : ℝ), by unfold cC; simp [Ideal.ofBits, Ideal.ieee, -EReal.coe_mul]; norm_num⟩

theorem isR_div1024 {a : EReal} : IsR a → IsR (Ideal.div a n1024) := fun ⟨r, hr⟩ =>
  ⟨r * (1 / 1024), by rw [hr, show n1024 = ((1024 : ℝ) : EReal) from Alg.ofBits_1024, Ideal.div_coe (by norm_num), EReal.coe_mul]⟩

theorem isR_sig {z : EReal} : IsR z → IsR (sig z) := fun ⟨r, hr⟩ => by
  have hp : (1 + Real.exp (0 - r)) ≠ 0 := by positivity
  refine ⟨1 / (1 + Real.exp (0 - r)), ?_⟩
  unfold sig
  rw [hr, show (0 : EReal) - (r : EReal) = ((0 - r : ℝ) : EReal) by push_cast; rfl, Ideal.exp_coe,
    show (1 : EReal) + ((Real.exp (0 - r) : ℝ) : EReal) = ((1 + Real.exp (0 - r) : ℝ) : EReal) by push_cast; rfl, Ideal.div_coe hp, one_mul]

theorem isR_th {y : EReal} (h : IsR y) : IsR (th y) := by
  obtain ⟨s, hs⟩ : IsR (cC * (y + cub * (y * y * y))) := isR_cC.mul (h.add (IsR.mul ⟨_, rfl⟩ ((h.mul h).mul h)))
  exact ⟨Real.tanh s, by unfold th; rw [hs, Ideal.tanh_coe]⟩

theorem isR_gelu {y : EReal} (h : IsR y) : IsR (gelu y) := (isR_half.mul h).mul (IsR.one.add (isR_th h))

structure Wts.Real (W : Wts) : Prop where
  gf : ∀ j, IsR (W.gf j)
  bg : ∀ j, IsR (W.bg j)
  w0 : ∀ j, IsR (W.w0 j)
  w1 : ∀ j, IsR (W.w1 j)
  w2 : ∀ j, IsR (W.w2 j)
  wg : ∀ k j, IsR (W.wg k j)
  woS : ∀ k j, IsR (W.woS k j)
  woC : ∀ k j, IsR (W.woC k j)

structure Row.Real (R : Row) : Prop where
  x : ∀ j, IsR (R.x j)
  t : ∀ j, IsR (R.t j)
  y : ∀ j, IsR (R.y j)
  zs : ∀ j, IsR (R.zs j)
  bc : ∀ j, IsR (R.bc j)
  zc : ∀ j, IsR (R.zc j)
  v : ∀ j, IsR (R.v j)
  v1 : ∀ j, IsR (R.v1 j)
  v2 : ∀ j, IsR (R.v2 j)

variable {W R} (hW : W.Real) (hR : R.Real)
include hW hR

theorem isR_gate (j : Fin 512) : IsR (gate W R j) :=
  isR_sig ((IsR.sum fun k => (isR_gelu (hR.y k)).mul (hW.wg k j)).add (hW.bg j))
theorem isR_y2 (j : Fin 512) : IsR (y2 W R j) := (isR_gelu (hR.y j)).mul (isR_gate hW hR j)
theorem isR_yssm (j : Fin 512) : IsR (yssm W R j) := (isR_y2 hW hR j).mul ((hR.zs j).mul (isR_sig (hR.zs j)))
theorem isR_yc (j : Fin 512) : IsR (yc W R j) :=
  (((hW.w0 j).mul (hR.v2 j)).add ((hW.w1 j).mul (hR.v1 j))).add ((hW.w2 j).mul (hR.v j))
theorem isR_yconv (j : Fin 512) : IsR (yconv W R j) := ((hR.bc j).mul (isR_yc hW hR j)).mul ((hR.zc j).mul (isR_sig (hR.zc j)))
theorem isR_h2 (j : Fin 1024) : IsR (h2 W R j) :=
  ((hR.x j).add (IsR.sum fun k => (isR_yssm hW hR k).mul (hW.woS k j))).add (IsR.sum fun k => (isR_yconv hW hR k).mul (hW.woC k j))
theorem ms_pos : ∃ v : ℝ, 0 < v ∧ ms W R = (v : EReal) := by
  rcases Alg.ms_cases Finset.univ (h2 W R) with h | h
  · exfalso
    obtain ⟨e, he, hee⟩ := Alg.ofBits_eps
    obtain ⟨r, hr⟩ := (isR_div1024 (IsR.sum fun k => (isR_h2 hW hR k).mul (isR_h2 hW hR k))).add ⟨e, hee⟩
    exact EReal.coe_ne_top r (hr.symm.trans h)
  · exact h
theorem isR_rr : IsR (rr W R) := by
  obtain ⟨v, hv, h⟩ := ms_pos hW hR
  exact ⟨(Real.sqrt v)⁻¹, by unfold rr; rw [h, Ideal.rsqrt_coe, if_neg (not_lt.mpr hv.le), if_neg hv.ne']⟩
theorem isR_hn (j : Fin 1024) : IsR (hn W R j) := (isR_h2 hW hR j).mul (isR_rr hW hR)
theorem isR_dout (j : Fin 1024) : IsR (dout W R j) := (((isR_hn hW hR j).mul (hW.gf j)).sub (hR.t j)).mul isR_i1024
theorem isR_dh2 (j : Fin 1024) : IsR (dh2 W R j) :=
  (isR_rr hW hR).mul (((isR_dout hW hR j).mul (hW.gf j)).sub
    ((isR_hn hW hR j).mul (isR_div1024 (IsR.sum fun k => ((isR_dout hW hR k).mul (hW.gf k)).mul (isR_hn hW hR k)))))
theorem isR_dyssm (k : Fin 512) : IsR (dyssm W R k) := IsR.sum fun j => (isR_dh2 hW hR j).mul (hW.woS k j)
theorem isR_dyconv (k : Fin 512) : IsR (dyconv W R k) := IsR.sum fun j => (isR_dh2 hW hR j).mul (hW.woC k j)
theorem isR_dy2 (k : Fin 512) : IsR (dy2 W R k) := (isR_dyssm hW hR k).mul ((hR.zs k).mul (isR_sig (hR.zs k)))
theorem isR_dgp (k : Fin 512) : IsR (dgp W R k) :=
  ((isR_dy2 hW hR k).mul (isR_gelu (hR.y k))).mul ((isR_gate hW hR k).mul (IsR.one.sub (isR_gate hW hR k)))
theorem isR_dy1 (k : Fin 512) : IsR (dy1 W R k) :=
  ((isR_dy2 hW hR k).mul (isR_gate hW hR k)).add (IsR.sum fun j => (isR_dgp hW hR j).mul (hW.wg k j))

omit hW hR

/-! The reference's form of the same. -/

theorem sig_neg (z : EReal) : Ideal.div 1 (1 + Ideal.exp (-z)) = sig z := by unfold sig; rw [zero_sub]

/-- silu's gradient: the sigmoid's share and the derivative of the sigmoid. -/
theorem silu_back {c z : EReal} (hc : IsR c) (hz : IsR z) :
    c * sig z + z * c * (sig z * (1 - sig z)) = c * dsilu z := by
  obtain ⟨s, hs⟩ := isR_sig hz
  obtain ⟨c, rfl⟩ := hc
  obtain ⟨z, rfl⟩ := hz
  unfold dsilu
  rw [hs, ← EReal.coe_one]
  simp only [← EReal.coe_mul, ← EReal.coe_add, ← EReal.coe_sub]
  exact congrArg _ (by ring)

theorem ofBits_44715 : Ideal.ofBits .f32 0x472EAB00#32 = ((44715 : ℝ) : EReal) := by
  simp [Ideal.ofBits, Ideal.ieee, -EReal.coe_mul]; norm_num
theorem ofBits_million : Ideal.ofBits .f32 0x49742400#32 = ((1000000 : ℝ) : EReal) := by
  simp [Ideal.ofBits, Ideal.ieee, -EReal.coe_mul]; norm_num

theorem cub_div (a : EReal) : Ideal.div (Ideal.ofBits .f32 0x472EAB00#32 * a) (Ideal.ofBits .f32 0x49742400#32) = cub * a := by
  rw [ofBits_44715, ofBits_million, Ideal.div_coe (by norm_num), mul_right_comm, ← EReal.coe_mul]
  unfold cub; congr 2; norm_num

theorem cub_mul (a : EReal) : Ideal.ofBits .f32 0x472EAB00#32 * Ideal.div a (Ideal.ofBits .f32 0x49742400#32) = cub * a := by
  rw [ofBits_44715, ofBits_million, Ideal.div_coe (by norm_num), mul_comm a, ← mul_assoc, ← EReal.coe_mul]
  unfold cub; congr 2; norm_num

theorem th_ref (y : EReal) :
    Ideal.tanh (cC * (y + Ideal.div (Ideal.ofBits .f32 0x472EAB00#32 * (y * y * y)) (Ideal.ofBits .f32 0x49742400#32))) = th y := by
  rw [cub_div]; rfl

theorem gelu_ref (y : EReal) : y * (half * (1 + th y)) = gelu y := by
  unfold gelu; rw [mul_left_comm, ← mul_assoc]

/-- gelu's gradient in its tanh form. -/
theorem gelu_back {d y : EReal} (hd : IsR d) (hy : IsR y) :
    d * (half * (1 + th y)) + cC * (half * (y * d) * ((1 + th y) * (1 - th y)))
      + cub * (cC * (half * (y * d) * ((1 + th y) * (1 - th y)))) * (Ideal.ofBits .f32 0x40400000#32 * (y * y)) = d * dgelu y := by
  obtain ⟨t, ht⟩ := isR_th hy
  obtain ⟨c, hc⟩ := isR_cC
  obtain ⟨d, rfl⟩ := hd
  obtain ⟨y, rfl⟩ := hy
  unfold dgelu
  rw [ht, hc, show half = _ from Alg.ofBits_half, Alg.ofBits_three, ← EReal.coe_one]
  unfold cub slope
  simp only [← EReal.coe_mul, ← EReal.coe_add, ← EReal.coe_sub]
  exact congrArg _ (by ring)

/-- The output's gradient: the loss's half, its mean and the square's two. -/
theorem dout_ref (e : EReal) : Ideal.div half n1024 * (Ideal.ofBits .f32 0x40000000#32 * e) = e * i1024 := by
  rw [show half = _ from Alg.ofBits_half, show n1024 = _ from Alg.ofBits_1024, show i1024 = _ from Alg.ofBits_inv1024, Alg.ofBits_two,
    Ideal.div_coe (by norm_num), ← mul_assoc, mul_comm, ← EReal.coe_mul, ← EReal.coe_mul]
  congr 2; norm_num

/-- The normalization's gradient. -/
theorem dh2_ref (j : Fin 1024) (dn : Fin 1024 → EReal) (hdn : ∀ k, dn k = dout W R k * W.gf k) :
    (dn j * rr W R
        + h2 W R j * Ideal.div ((∑ i, h2 W R i * dn i) * (Ideal.ofBits .f32 0xBF000000#32 * Ideal.div (rr W R) (ms W R))) n1024)
      + Ideal.div ((∑ i, h2 W R i * dn i) * (Ideal.ofBits .f32 0xBF000000#32 * Ideal.div (rr W R) (ms W R))) n1024 * h2 W R j
    = dh2 W R j := by
  refine (Alg.rms_back (h2 W R) dn (ms W R) (Alg.ms_cases Finset.univ (h2 W R)) j).symm.trans ?_
  simp only [hdn]
  rfl

end Cert.Mix

end
-- ==== Proof.Ref1.lean ====
/- The reference of the tail and its backward, read element by element: each stage at token `i` is the same stage of that
   token's own inputs. -/
module

public import proofs.«01_k».proof.Proof.MixMath
public import proofs.«01_k».proof.Proof.Gen.ReferenceIdeal.Read
public import Idealize.ShloMosaic.Lib.Pipeline.ValueKit

@[expose] public section

set_option maxRecDepth 16384

noncomputable section

namespace Cert.Ref1

open Idealize.ShloMosaic Idealize.ShloMosaic.Pointwise
open Cert.ReferenceIdeal Cert.ReferenceIdeal.Gen Cert.ReferenceIdeal.Read Cert.Mix

/-- The convolution's input at token `i`: the product of two column blocks of the projection. -/
def vv (x3 : FVec Ideal S4096x3072 .f32) (i : Fin 4096) (j : Fin 512) : EReal :=
  x3 (ix2 i ⟨2048 + j.val, by omega⟩) * x3 (ix2 i ⟨1024 + j.val, by omega⟩)

variable (x0 x1 : FVec Ideal S4096x1024 .f32) (x2 : FVec Ideal S4096x512 .f32) (x3 : FVec Ideal S4096x3072 .f32)
    (x4 : FVec Ideal S1x1024 .f32) (x5 : FVec Ideal S1x512 .f32) (x6 : FVec Ideal S8x512 .f32)
    (x7 : FVec Ideal S512x512 .bf16) (x8 : FVec Ideal S1024x1024 .bf16)

/-- Token `i`'s inputs: the two tokens before it count only inside its own sequence of 2048. -/
def row (i : Fin 4096) : Row where
  x := fun j => x0 (ix2 i j)
  t := fun j => x1 (ix2 i j)
  y := fun j => x2 (ix2 i j)
  zs := fun j => x3 (ix2 i ⟨512 + j.val, by omega⟩)
  bc := fun j => x3 (ix2 i ⟨1536 + j.val, by omega⟩)
  zc := fun j => x3 (ix2 i ⟨2560 + j.val, by omega⟩)
  v := vv x3 i
  v1 := fun j => if h : 1 ≤ i.val % 2048 then vv x3 ⟨i.val - 1, by omega⟩ j else 0
  v2 := fun j => if h : 2 ≤ i.val % 2048 then vv x3 ⟨i.val - 2, by omega⟩ j else 0

def wts : Wts where
  gf := fun j => x4 (ix2 0 j)
  bg := fun j => x5 (ix2 0 j)
  w0 := fun j => x6 (ix2 0 j)
  w1 := fun j => x6 (ix2 1 j)
  w2 := fun j => x6 (ix2 2 j)
  wg := fun k j => x7 (ix2 k j)
  woS := fun k j => x8 (ix2 ⟨k.val, by omega⟩ j)
  woC := fun k j => x8 (ix2 ⟨512 + k.val, by omega⟩ j)

theorem v0_at (i : Fin 4096) (j : Fin 512) : val_main_v0 (F := Ideal) x3 (ix2 i j) = (row x0 x1 x2 x3 i).zs j := by
  pointwise [val_main_v0]
  rfl

theorem v2_at (i : Fin 4096) (j : Fin 512) : val_main_v2 (F := Ideal) x3 (ix2 i j) = (row x0 x1 x2 x3 i).bc j := by
  pointwise [val_main_v2]
  rfl

theorem v4_at (i : Fin 4096) (j : Fin 512) : val_main_v4 (F := Ideal) x3 (ix2 i j) = (row x0 x1 x2 x3 i).zc j := by
  pointwise [val_main_v4]
  rfl

theorem v6_at (i : Fin 4096) (j : Fin 512) : val_main_v6 (F := Ideal) x3 (ix2 i j) = vv x3 i j := by
  pointwise [val_main_v6, val_main_v3, val_main_v1]
  rfl

theorem v30_at (i : Fin 4096) (j : Fin 512) : val_main_v30 (F := Ideal) x3 (ix2 i j) = (row x0 x1 x2 x3 i).v j := by
  have hi := i.isLt
  pointwise [val_main_v30, val_main_v29, val_main_v9, val_main_v8, val_main_v7, val_main_cst]
  exact v6_at x3 i j

theorem v22_at (i : Fin 4096) (j : Fin 512) : val_main_v22 (F := Ideal) x3 (ix2 i j) = (row x0 x1 x2 x3 i).v1 j := by
  have hi := i.isLt
  show _ = if h : 1 ≤ i.val % 2048 then vv x3 ⟨i.val - 1, by omega⟩ j else 0
  pointwise [val_main_v22, val_main_v21, val_main_v9, val_main_v8, val_main_v7, val_main_cst]
  by_cases h : 1 ≤ i.val % 2048
  · refine (dif_neg (by omega)).trans (Eq.trans ?_ (dif_pos h).symm)
    refine (v6_at x3 _ _).trans (congrArg (fun q => vv x3 q j) (Fin.ext ?_))
    simp only []
    omega
  · rw [dif_neg h]
    exact dif_pos (by omega)

theorem v13_at (i : Fin 4096) (j : Fin 512) : val_main_v13 (F := Ideal) x3 (ix2 i j) = (row x0 x1 x2 x3 i).v2 j := by
  have hi := i.isLt
  show _ = if h : 2 ≤ i.val % 2048 then vv x3 ⟨i.val - 2, by omega⟩ j else 0
  pointwise [val_main_v13, val_main_v12, val_main_v9, val_main_v8, val_main_v7, val_main_cst]
  by_cases h : 2 ≤ i.val % 2048
  · refine (dif_neg (by omega)).trans (Eq.trans ?_ (dif_pos h).symm)
    refine (v6_at x3 _ _).trans (congrArg (fun q => vv x3 q j) (Fin.ext ?_))
    simp only []
    omega
  · rw [dif_neg h]
    exact dif_pos (by omega)

/-! The forward. -/

theorem yc_at (i : Fin 4096) (j : Fin 512) : val_main_v34 (F := Ideal) x3 x6 (ix2 i j) = yc (wts x4 x5 x6 x7 x8) (row x0 x1 x2 x3 i) j := by
  pointwise [val_main_v34, val_main_v26, val_main_v18, val_main_v17, val_main_cst_0, val_main_v16, val_main_v15, val_main_v14, val_main_v11, val_main_v10,
    val_main_v5, val_main_v25, val_main_v24, val_main_v23, val_main_v20, val_main_v19, val_main_v33, val_main_v32, val_main_v31, val_main_v28,
    val_main_v27]
  rw [v30_at x0 x1 x2, v22_at x0 x1 x2, v13_at x0 x1 x2]
  rfl

theorem th_at (i : Fin 4096) (j : Fin 512) : val_main_v49 (F := Ideal) x2 (ix2 i j) = th ((row x0 x1 x2 x3 i).y j) := by
  pointwise [val_main_v49, val_main_v48, val_main_v47, val_main_cst_4, val_main_v46, val_main_v45, val_main_v44, val_main_cst_3, val_main_v43,
    val_main_v42, val_main_cst_2, val_main_v38, val_main_v37]
  exact th_ref _

theorem v58_at (i : Fin 4096) (j : Fin 512) : val_main_v58 (F := Ideal) x2 (ix2 i j) = half * (1 + th ((row x0 x1 x2 x3 i).y j)) := by
  pointwise [val_main_v58, val_main_v57, val_main_cst_8, val_main_v56, val_main_v55, val_main_cst_7]
  rw [th_at x0 x1 x2 x3]
  rfl

theorem v54_at (i : Fin 4096) (j : Fin 512) :
    val_main_v54 (F := Ideal) x2 (ix2 i j) = (1 + th ((row x0 x1 x2 x3 i).y j)) * (1 - th ((row x0 x1 x2 x3 i).y j)) := by
  pointwise [val_main_v54, val_main_v53, val_main_v52, val_main_cst_6, val_main_v51, val_main_v50, val_main_cst_5]
  rw [th_at x0 x1 x2 x3]

theorem gelu_at (i : Fin 4096) (j : Fin 512) : val_main_v59 (F := Ideal) x2 (ix2 i j) = gelu ((row x0 x1 x2 x3 i).y j) := by
  pointwise [val_main_v59]
  rw [v58_at x0 x1 x2 x3]
  exact gelu_ref _

theorem gate_at (i : Fin 4096) (j : Fin 512) : val_main_v68 (F := Ideal) x2 x5 x7 (ix2 i j) = gate (wts x4 x5 x6 x7 x8) (row x0 x1 x2 x3 i) j := by
  pointwise [val_main_v68, val_main_v67, val_main_cst_10, val_main_v66, val_main_v65, val_main_cst_9, val_main_v64, val_main_v63, val_main_v62,
    val_main_v61, val_main_v60, val_main_v35]
  simp only [gelu_at x0 x1 x2 x3]
  exact sig_neg _

theorem y2_at (i : Fin 4096) (j : Fin 512) : val_main_v72 (F := Ideal) x2 x5 x7 (ix2 i j) = y2 (wts x4 x5 x6 x7 x8) (row x0 x1 x2 x3 i) j := by
  pointwise [val_main_v72]
  rw [gelu_at x0 x1 x2 x3, gate_at x0 x1 x2 x3 x4 x5 x6 x7 x8]
  rfl

theorem sigS_at (i : Fin 4096) (j : Fin 512) : val_main_v73_2 (F := Ideal) x3 (ix2 i j) = sig ((row x0 x1 x2 x3 i).zs j) := by
  pointwise [val_main_v73_2, val_main_call0_v4, val_main_call0_cst_0, val_main_call0_v3, val_main_call0_v2, val_main_call0_cst, val_main_call0_v1,
    val_main_call0_v0]
  rw [v0_at x0 x1 x2]
  exact sig_neg _

theorem sigC_at (i : Fin 4096) (j : Fin 512) : val_main_v76_2 (F := Ideal) x3 (ix2 i j) = sig ((row x0 x1 x2 x3 i).zc j) := by
  pointwise [val_main_v76_2, val_main_call1_v4, val_main_call1_cst_0, val_main_call1_v3, val_main_call1_v2, val_main_call1_cst, val_main_call1_v1,
    val_main_call1_v0]
  rw [v4_at x0 x1 x2]
  exact sig_neg _

theorem siluS_at (i : Fin 4096) (j : Fin 512) : val_main_v73_0 (F := Ideal) x3 (ix2 i j) = (row x0 x1 x2 x3 i).zs j * sig ((row x0 x1 x2 x3 i).zs j) := by
  pointwise [val_main_v73_0]
  rw [v0_at x0 x1 x2, sigS_at x0 x1 x2]

theorem siluC_at (i : Fin 4096) (j : Fin 512) : val_main_v76_0 (F := Ideal) x3 (ix2 i j) = (row x0 x1 x2 x3 i).zc j * sig ((row x0 x1 x2 x3 i).zc j) := by
  pointwise [val_main_v76_0]
  rw [v4_at x0 x1 x2, sigC_at x0 x1 x2]

theorem yssm_at (i : Fin 4096) (j : Fin 512) : val_main_v74 (F := Ideal) x2 x3 x5 x7 (ix2 i j) = yssm (wts x4 x5 x6 x7 x8) (row x0 x1 x2 x3 i) j := by
  pointwise [val_main_v74]
  rw [y2_at x0 x1 x2 x3 x4 x5 x6 x7 x8, siluS_at x0 x1 x2]
  rfl

theorem yconv_at (i : Fin 4096) (j : Fin 512) : val_main_v77 (F := Ideal) x3 x6 (ix2 i j) = yconv (wts x4 x5 x6 x7 x8) (row x0 x1 x2 x3 i) j := by
  pointwise [val_main_v77, val_main_v75]
  rw [v2_at x0 x1 x2, yc_at x0 x1 x2 x3 x4 x5 x6 x7 x8, siluC_at x0 x1 x2]
  rfl

theorem catS_at (i : Fin 4096) (k : Fin 512) (q : Fin 1024) (hq : q.val = k.val) :
    val_main_v78 (F := Ideal) x2 x3 x5 x6 x7 (ix2 i q) = yssm (wts x4 x5 x6 x7 x8) (row x0 x1 x2 x3 i) k := by
  have hk := k.isLt
  pointwise [val_main_v78]
  refine (dif_pos (by omega)).trans ?_
  exact (yssm_at x0 x1 x2 x3 x4 x5 x6 x7 x8 i _).trans (congrArg (yssm _ _) (Fin.ext hq))

theorem catC_at (i : Fin 4096) (k : Fin 512) (q : Fin 1024) (hq : q.val = 512 + k.val) :
    val_main_v78 (F := Ideal) x2 x3 x5 x6 x7 (ix2 i q) = yconv (wts x4 x5 x6 x7 x8) (row x0 x1 x2 x3 i) k := by
  pointwise [val_main_v78]
  refine (dif_neg (by omega)).trans ?_
  exact (yconv_at x0 x1 x2 x3 x4 x5 x6 x7 x8 i _).trans (congrArg (yconv _ _) (Fin.ext (by simp only []; omega)))

/-- A sum over 1024 places is the sum over the first 512 and the sum over the last. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

theorem h2_at (i : Fin 4096) (j : Fin 1024) : val_main_v80 (F := Ideal) x0 x2 x3 x5 x6 x7 x8 (ix2 i j) = h2 (wts x4 x5 x6 x7 x8) (row x0 x1 x2 x3 i) j := by
  pointwise [val_main_v80, val_main_v79, val_main_v36]
  rw [sum_halves, ← add_assoc]
  simp only [catS_at x0 x1 x2 x3 x4 x5 x6 x7 x8 i _ ⟨_, _⟩ rfl, catC_at x0 x1 x2 x3 x4 x5 x6 x7 x8 i _ ⟨_, _⟩ rfl]
  rfl

theorem ms_at (i : Fin 4096) (u : Fin 1) : val_main_v87 (F := Ideal) x0 x2 x3 x5 x6 x7 x8 (ix2 i u) = ms (wts x4 x5 x6 x7 x8) (row x0 x1 x2 x3 i) := by
  pointwise [val_main_v87, val_main_v86, val_main_cst_14, val_main_v85, val_main_v84, val_main_cst_13, val_main_v83, val_main_v82, val_main_cst_12,
    val_main_v81]
  simp only [h2_at x0 x1 x2 x3 x4 x5 x6 x7 x8]
  rfl

theorem rr_at (i : Fin 4096) (u : Fin 1) : val_main_v88 (F := Ideal) x0 x2 x3 x5 x6 x7 x8 (ix2 i u) = rr (wts x4 x5 x6 x7 x8) (row x0 x1 x2 x3 i) := by
  pointwise [val_main_v88]
  rw [ms_at x0 x1 x2 x3 x4 x5 x6 x7 x8]
  rfl

theorem hn_at (i : Fin 4096) (j : Fin 1024) : val_main_v93 (F := Ideal) x0 x2 x3 x5 x6 x7 x8 (ix2 i j) = hn (wts x4 x5 x6 x7 x8) (row x0 x1 x2 x3 i) j := by
  pointwise [val_main_v93, val_main_v92]
  rw [rr_at x0 x1 x2 x3 x4 x5 x6 x7 x8, h2_at x0 x1 x2 x3 x4 x5 x6 x7 x8]
  rfl

theorem err_at (i : Fin 4096) (j : Fin 1024) : val_main_v96 (F := Ideal) x0 x1 x2 x3 x4 x5 x6 x7 x8 (ix2 i j) = err (wts x4 x5 x6 x7 x8) (row x0 x1 x2 x3 i) j := by
  pointwise [val_main_v96, val_main_v95, val_main_v94]
  rw [hn_at x0 x1 x2 x3 x4 x5 x6 x7 x8]
  rfl

theorem loss_at (a : Fin 8) (b : Fin 128) :
    val_main_v189 (F := Ideal) x0 x1 x2 x3 x4 x5 x6 x7 x8 (ix2 a b) = half * ∑ i : Fin 4096, rowLoss (wts x4 x5 x6 x7 x8) (row x0 x1 x2 x3 i) := by
  pointwise [val_main_v189, val_main_v104, val_main_cst_20, val_main_v103, val_main_cst_19, val_main_v102, val_main_v101, val_main_cst_18, val_main_v100,
    val_main_cst_17, val_main_v97]
  simp only [err_at x0 x1 x2 x3 x4 x5 x6 x7 x8]
  rfl

/-! The backward. -/

theorem dout_at (i : Fin 4096) (j : Fin 1024) : val_main_v110 (F := Ideal) x0 x1 x2 x3 x4 x5 x6 x7 x8 (ix2 i j) = dout (wts x4 x5 x6 x7 x8) (row x0 x1 x2 x3 i) j := by
  pointwise [val_main_v110, val_main_v109, val_main_v108, val_main_v107, val_main_cst_23, val_main_v106, val_main_v105, val_main_cst_22, val_main_cst_21,
    val_main_v99, val_main_v98, val_main_cst_16]
  rw [err_at x0 x1 x2 x3 x4 x5 x6 x7 x8]
  exact dout_ref _

theorem dgain_at (u : Fin 1) (j : Fin 1024) :
    val_main_v113 (F := Ideal) x0 x1 x2 x3 x4 x5 x6 x7 x8 (ix2 u j) = ∑ i : Fin 4096, dout (wts x4 x5 x6 x7 x8) (row x0 x1 x2 x3 i) j * hn (wts x4 x5 x6 x7 x8) (row x0 x1 x2 x3 i) j := by
  pointwise [val_main_v113, val_main_v112, val_main_cst_24, val_main_v111]
  simp only [hn_at x0 x1 x2 x3 x4 x5 x6 x7 x8, dout_at x0 x1 x2 x3 x4 x5 x6 x7 x8]
  exact Finset.sum_congr rfl fun i _ => mul_comm _ _

theorem dn_at (i : Fin 4096) (j : Fin 1024) : val_main_v115 (F := Ideal) x0 x1 x2 x3 x4 x5 x6 x7 x8 (ix2 i j) = dout (wts x4 x5 x6 x7 x8) (row x0 x1 x2 x3 i) j * (wts x4 x5 x6 x7 x8).gf j := by
  pointwise [val_main_v115, val_main_v114]
  rw [dout_at x0 x1 x2 x3 x4 x5 x6 x7 x8]
  rfl

theorem dh2_at (i : Fin 4096) (j : Fin 1024) : val_main_v129 (F := Ideal) x0 x1 x2 x3 x4 x5 x6 x7 x8 (ix2 i j) = dh2 (wts x4 x5 x6 x7 x8) (row x0 x1 x2 x3 i) j := by
  pointwise [val_main_v129, val_main_v128, val_main_v127, val_main_v126, val_main_v125, val_main_v124, val_main_cst_27, val_main_v123, val_main_v122,
    val_main_cst_26, val_main_v121, val_main_v120, val_main_v119, val_main_v118, val_main_v117, val_main_cst_25, val_main_v116, val_main_v91,
    val_main_v90, val_main_cst_15, val_main_v89]
  simp only [h2_at x0 x1 x2 x3 x4 x5 x6 x7 x8, rr_at x0 x1 x2 x3 x4 x5 x6 x7 x8, ms_at x0 x1 x2 x3 x4 x5 x6 x7 x8, dn_at x0 x1 x2 x3 x4 x5 x6 x7 x8,
    Finset.univ_unique, Finset.sum_singleton]
  exact dh2_ref _ (fun k => dout _ _ k * _) fun k => rfl

theorem dwoS_at (k : Fin 512) (q j : Fin 1024) (hq : q.val = k.val) :
    val_main_v131 (F := Ideal) x0 x1 x2 x3 x4 x5 x6 x7 x8 (ix2 q j) = ∑ i : Fin 4096, yssm (wts x4 x5 x6 x7 x8) (row x0 x1 x2 x3 i) k * dh2 (wts x4 x5 x6 x7 x8) (row x0 x1 x2 x3 i) j := by
  pointwise [val_main_v131, val_main_v130]
  simp only [dh2_at x0 x1 x2 x3 x4 x5 x6 x7 x8, catS_at x0 x1 x2 x3 x4 x5 x6 x7 x8 _ k q hq]
  exact Finset.sum_congr rfl fun i _ => mul_comm _ _

theorem dwoC_at (k : Fin 512) (q j : Fin 1024) (hq : q.val = 512 + k.val) :
    val_main_v131 (F := Ideal) x0 x1 x2 x3 x4 x5 x6 x7 x8 (ix2 q j) = ∑ i : Fin 4096, yconv (wts x4 x5 x6 x7 x8) (row x0 x1 x2 x3 i) k * dh2 (wts x4 x5 x6 x7 x8) (row x0 x1 x2 x3 i) j := by
  pointwise [val_main_v131, val_main_v130]
  simp only [dh2_at x0 x1 x2 x3 x4 x5 x6 x7 x8, catC_at x0 x1 x2 x3 x4 x5 x6 x7 x8 _ k q hq]
  exact Finset.sum_congr rfl fun i _ => mul_comm _ _

theorem dyssm_at (i : Fin 4096) (k : Fin 512) : val_main_v133 (F := Ideal) x0 x1 x2 x3 x4 x5 x6 x7 x8 (ix2 i k) = dyssm (wts x4 x5 x6 x7 x8) (row x0 x1 x2 x3 i) k := by
  pointwise [val_main_v133, val_main_v132, val_main_v36]
  simp only [dh2_at x0 x1 x2 x3 x4 x5 x6 x7 x8]
  rfl

theorem dyconv_at (i : Fin 4096) (k : Fin 512) : val_main_v134 (F := Ideal) x0 x1 x2 x3 x4 x5 x6 x7 x8 (ix2 i k) = dyconv (wts x4 x5 x6 x7 x8) (row x0 x1 x2 x3 i) k := by
  pointwise [val_main_v134, val_main_v132, val_main_v36]
  simp only [dh2_at x0 x1 x2 x3 x4 x5 x6 x7 x8]
  rfl

theorem dyc_at (i : Fin 4096) (k : Fin 512) : val_main_v138 (F := Ideal) x0 x1 x2 x3 x4 x5 x6 x7 x8 (ix2 i k) = dyc (wts x4 x5 x6 x7 x8) (row x0 x1 x2 x3 i) k := by
  pointwise [val_main_v138, val_main_v136]
  rw [dyconv_at x0 x1 x2 x3 x4 x5 x6 x7 x8, v2_at x0 x1 x2, siluC_at x0 x1 x2]
  unfold dyc
  rw [← mul_assoc, mul_comm (((row x0 x1 x2 x3 i).bc k))]

theorem dbc_at (i : Fin 4096) (k : Fin 512) : val_main_v187 (F := Ideal) x0 x1 x2 x3 x4 x5 x6 x7 x8 (ix2 i k) = dbc (wts x4 x5 x6 x7 x8) (row x0 x1 x2 x3 i) k := by
  pointwise [val_main_v187, val_main_v139, val_main_v136]
  rw [dyconv_at x0 x1 x2 x3 x4 x5 x6 x7 x8, yc_at x0 x1 x2 x3 x4 x5 x6 x7 x8, siluC_at x0 x1 x2]
  unfold dbc
  rw [mul_right_comm]

theorem dy2_at (i : Fin 4096) (k : Fin 512) : val_main_v141 (F := Ideal) x0 x1 x2 x3 x4 x5 x6 x7 x8 (ix2 i k) = dy2 (wts x4 x5 x6 x7 x8) (row x0 x1 x2 x3 i) k := by
  pointwise [val_main_v141]
  rw [dyssm_at x0 x1 x2 x3 x4 x5 x6 x7 x8, siluS_at x0 x1 x2]
  rfl

theorem dgp_at (i : Fin 4096) (k : Fin 512) : val_main_v145 (F := Ideal) x0 x1 x2 x3 x4 x5 x6 x7 x8 (ix2 i k) = dgp (wts x4 x5 x6 x7 x8) (row x0 x1 x2 x3 i) k := by
  pointwise [val_main_v145, val_main_v143, val_main_v71, val_main_v70, val_main_v69, val_main_cst_11]
  rw [gelu_at x0 x1 x2 x3, dy2_at x0 x1 x2 x3 x4 x5 x6 x7 x8, gate_at x0 x1 x2 x3 x4 x5 x6 x7 x8]
  unfold dgp
  rw [mul_comm (gelu _)]

theorem dbg_at (u : Fin 1) (k : Fin 512) : val_main_v147 (F := Ideal) x0 x1 x2 x3 x4 x5 x6 x7 x8 (ix2 u k) = ∑ i : Fin 4096, dgp (wts x4 x5 x6 x7 x8) (row x0 x1 x2 x3 i) k := by
  pointwise [val_main_v147, val_main_v146, val_main_cst_28]
  simp only [dgp_at x0 x1 x2 x3 x4 x5 x6 x7 x8]

theorem dwg_at (k j : Fin 512) :
    val_main_v149 (F := Ideal) x0 x1 x2 x3 x4 x5 x6 x7 x8 (ix2 k j) = ∑ i : Fin 4096, gelu ((row x0 x1 x2 x3 i).y k) * dgp (wts x4 x5 x6 x7 x8) (row x0 x1 x2 x3 i) j := by
  pointwise [val_main_v149, val_main_v148]
  simp only [dgp_at x0 x1 x2 x3 x4 x5 x6 x7 x8, gelu_at x0 x1 x2 x3]
  exact Finset.sum_congr rfl fun i _ => mul_comm _ _

theorem dy1_at (i : Fin 4096) (k : Fin 512) : val_main_v151 (F := Ideal) x0 x1 x2 x3 x4 x5 x6 x7 x8 (ix2 i k) = dy1 (wts x4 x5 x6 x7 x8) (row x0 x1 x2 x3 i) k := by
  pointwise [val_main_v151, val_main_v150, val_main_v144, val_main_v35]
  simp only [dgp_at x0 x1 x2 x3 x4 x5 x6 x7 x8, dy2_at x0 x1 x2 x3 x4 x5 x6 x7 x8, gate_at x0 x1 x2 x3 x4 x5 x6 x7 x8]
  rfl

/-! The convolution taps' gradient: three rows of sums over the tokens, the other rows zero. -/

theorem dcw0_at (k : Fin 512) : val_main_v191 (F := Ideal) x0 x1 x2 x3 x4 x5 x6 x7 x8 (ix2 0 k) = ∑ i : Fin 4096, dyc (wts x4 x5 x6 x7 x8) (row x0 x1 x2 x3 i) k * (row x0 x1 x2 x3 i).v2 k := by
  pointwise [val_main_v191, val_main_v185, val_main_v184, val_main_v183, val_main_v182, val_main_cst_40, val_main_v181, val_main_v180, val_main_cst_39,
    val_main_v179, val_main_v178, val_main_v177, val_main_v176, val_main_v175, val_main_cst_37, val_main_v174, val_main_v173, val_main_cst_36,
    val_main_v172, val_main_v171, val_main_v170, val_main_v169, val_main_cst_34, val_main_v168, val_main_v167, val_main_cst_33, val_main_v166,
    val_main_cst_35, val_main_cst_38, val_main_cst_41]
  simp only [dyc_at x0 x1 x2 x3 x4 x5 x6 x7 x8, v13_at x0 x1 x2, Finset.univ_unique, Finset.sum_singleton]

theorem dcw1_at (k : Fin 512) : val_main_v191 (F := Ideal) x0 x1 x2 x3 x4 x5 x6 x7 x8 (ix2 1 k) = ∑ i : Fin 4096, dyc (wts x4 x5 x6 x7 x8) (row x0 x1 x2 x3 i) k * (row x0 x1 x2 x3 i).v1 k := by
  pointwise [val_main_v191, val_main_v185, val_main_v184, val_main_v183, val_main_v182, val_main_cst_40, val_main_v181, val_main_v180, val_main_cst_39,
    val_main_v179, val_main_v178, val_main_v177, val_main_v176, val_main_v175, val_main_cst_37, val_main_v174, val_main_v173, val_main_cst_36,
    val_main_v172, val_main_v171, val_main_v170, val_main_v169, val_main_cst_34, val_main_v168, val_main_v167, val_main_cst_33, val_main_v166,
    val_main_cst_35, val_main_cst_38, val_main_cst_41]
  simp only [dyc_at x0 x1 x2 x3 x4 x5 x6 x7 x8, v22_at x0 x1 x2, Finset.univ_unique, Finset.sum_singleton]

theorem dcw2_at (k : Fin 512) : val_main_v191 (F := Ideal) x0 x1 x2 x3 x4 x5 x6 x7 x8 (ix2 2 k) = ∑ i : Fin 4096, dyc (wts x4 x5 x6 x7 x8) (row x0 x1 x2 x3 i) k * (row x0 x1 x2 x3 i).v k := by
  pointwise [val_main_v191, val_main_v185, val_main_v184, val_main_v183, val_main_v182, val_main_cst_40, val_main_v181, val_main_v180, val_main_cst_39,
    val_main_v179, val_main_v178, val_main_v177, val_main_v176, val_main_v175, val_main_cst_37, val_main_v174, val_main_v173, val_main_cst_36,
    val_main_v172, val_main_v171, val_main_v170, val_main_v169, val_main_cst_34, val_main_v168, val_main_v167, val_main_cst_33, val_main_v166,
    val_main_cst_35, val_main_cst_38, val_main_cst_41]
  simp only [dyc_at x0 x1 x2 x3 x4 x5 x6 x7 x8, v30_at x0 x1 x2, Finset.univ_unique, Finset.sum_singleton]

theorem dcw_rest (a : Fin 8) (ha : 3 ≤ a.val) (k : Fin 512) : val_main_v191 (F := Ideal) x0 x1 x2 x3 x4 x5 x6 x7 x8 (ix2 a k) = 0 := by
  pointwise [val_main_v191, val_main_v190, val_main_cst_42]
  exact dif_neg (by omega)

/-! The three results whose two forms agree on real arguments. -/

variable {x0 x1 x2 x3 x4 x5 x6 x7 x8} (hW : (wts x4 x5 x6 x7 x8).Real) (i : Fin 4096) (hR : (row x0 x1 x2 x3 i).Real)
include hW hR

theorem dzs_at (k : Fin 512) : val_main_v186 (F := Ideal) x0 x1 x2 x3 x4 x5 x6 x7 x8 (ix2 i k) = dzs (wts x4 x5 x6 x7 x8) (row x0 x1 x2 x3 i) k := by
  pointwise [val_main_v186, val_main_v142, val_main_call3_v2, val_main_call3_v1, val_main_call3_v0, val_main_v140, val_main_v73_1, val_main_call0_v7,
    val_main_call0_v6, val_main_call0_cst_1]
  rw [dyssm_at x0 x1 x2 x3 x4 x5 x6 x7 x8, y2_at x0 x1 x2 x3 x4 x5 x6 x7 x8, sigS_at x0 x1 x2, v0_at x0 x1 x2, mul_comm (y2 _ _ _)]
  exact silu_back ((isR_dyssm hW hR k).mul (isR_y2 hW hR k)) (hR.zs k)

theorem dzc_at (k : Fin 512) : val_main_v188 (F := Ideal) x0 x1 x2 x3 x4 x5 x6 x7 x8 (ix2 i k) = dzc (wts x4 x5 x6 x7 x8) (row x0 x1 x2 x3 i) k := by
  pointwise [val_main_v188, val_main_v137, val_main_call2_v2, val_main_call2_v1, val_main_call2_v0, val_main_v135, val_main_v75, val_main_v76_1,
    val_main_call1_v7, val_main_call1_v6, val_main_call1_cst_1]
  rw [dyconv_at x0 x1 x2 x3 x4 x5 x6 x7 x8, v2_at x0 x1 x2, yc_at x0 x1 x2 x3 x4 x5 x6 x7 x8, sigC_at x0 x1 x2, v4_at x0 x1 x2,
    mul_comm (_ * yc _ _ _), ← mul_assoc]
  exact silu_back (((isR_dyconv hW hR k).mul (hR.bc k)).mul (isR_yc hW hR k)) (hR.zc k)

theorem dy_at (k : Fin 512) : val_main_v165 (F := Ideal) x0 x1 x2 x3 x4 x5 x6 x7 x8 (ix2 i k) = dy (wts x4 x5 x6 x7 x8) (row x0 x1 x2 x3 i) k := by
  pointwise [val_main_v165, val_main_v164, val_main_v163, val_main_v162, val_main_cst_32, val_main_v161, val_main_v160, val_main_cst_31, val_main_v159,
    val_main_v158, val_main_v157, val_main_cst_30, val_main_v156, val_main_v155, val_main_v154, val_main_cst_29, val_main_v153, val_main_v152,
    val_main_v41, val_main_v40, val_main_cst_1, val_main_v39]
  rw [dy1_at x0 x1 x2 x3 x4 x5 x6 x7 x8, v54_at x0 x1 x2 x3, v58_at x0 x1 x2 x3, cub_mul]
  exact gelu_back (isR_dy1 hW hR k) (hR.y k)

end Cert.Ref1

end
-- ==== Proof.MixReal.lean ====
/- The precondition read: every element of every argument is a real number, so each token's inputs and the weights are. -/
module

public import proofs.«01_k».proof.Proof.Ref1
public import proofs.«01_k».proof.Pre_finite

@[expose] public section

set_option maxRecDepth 16384

noncomputable section

namespace Cert.MixReal

open Idealize.ShloMosaic Idealize.ShloMosaic.Pointwise Cert.Mix

theorem ofBits_inf : Ideal.ofBits .f32 0x7F800000#32 = ⊤ := by simp [Ideal.ofBits, Ideal.ieee]

/-- A number of absolute value below infinity is real. -/
theorem isR_of_lt (x : EReal) (h : Ideal.cmp .olt (max x (-x)) (Ideal.ofBits .f32 0x7F800000#32) = 1#1) : IsR x := by
  rw [ofBits_inf] at h
  induction x using EReal.rec with
  | bot => simp [Ideal.cmp] at h
  | top => simp [Ideal.cmp] at h
  | coe r => exact ⟨r, rfl⟩

section
variable [Cert.Pre_finite.Facts]
variable (x0 x1 : FVec Ideal Pre_finite.S4096x1024 .f32) (x2 : FVec Ideal Pre_finite.S4096x512 .f32) (x3 : FVec Ideal Pre_finite.S4096x3072 .f32)
    (x4 : FVec Ideal Pre_finite.S1x1024 .f32) (x5 : FVec Ideal Pre_finite.S1x512 .f32) (x6 : FVec Ideal Pre_finite.S8x512 .f32)
    (x7 : FVec Ideal Pre_finite.S512x512 .bf16) (x8 : FVec Ideal Pre_finite.S1024x1024 .bf16)

theorem r0 (h : (Pre_finite.fn (F := Ideal) x0 x1 x2 x3 x4 x5 x6 x7 x8).1 = fun _ => 1#1) (y) : IsR (x0 y) := isR_of_lt _ (congrFun h y)
theorem r1 (h : (Pre_finite.fn (F := Ideal) x0 x1 x2 x3 x4 x5 x6 x7 x8).2.1 = fun _ => 1#1) (y) : IsR (x1 y) := isR_of_lt _ (congrFun h y)
theorem r2 (h : (Pre_finite.fn (F := Ideal) x0 x1 x2 x3 x4 x5 x6 x7 x8).2.2.1 = fun _ => 1#1) (y) : IsR (x2 y) := isR_of_lt _ (congrFun h y)
theorem r3 (h : (Pre_finite.fn (F := Ideal) x0 x1 x2 x3 x4 x5 x6 x7 x8).2.2.2.1 = fun _ => 1#1) (y) : IsR (x3 y) := isR_of_lt _ (congrFun h y)
theorem r4 (h : (Pre_finite.fn (F := Ideal) x0 x1 x2 x3 x4 x5 x6 x7 x8).2.2.2.2.1 = fun _ => 1#1) (y) : IsR (x4 y) := isR_of_lt _ (congrFun h y)
theorem r5 (h : (Pre_finite.fn (F := Ideal) x0 x1 x2 x3 x4 x5 x6 x7 x8).2.2.2.2.2.1 = fun _ => 1#1) (y) : IsR (x5 y) := isR_of_lt _ (congrFun h y)
theorem r6 (h : (Pre_finite.fn (F := Ideal) x0 x1 x2 x3 x4 x5 x6 x7 x8).2.2.2.2.2.2.1 = fun _ => 1#1) (y) : IsR (x6 y) := isR_of_lt _ (congrFun h y)
theorem r7 (h : (Pre_finite.fn (F := Ideal) x0 x1 x2 x3 x4 x5 x6 x7 x8).2.2.2.2.2.2.2.1 = fun _ => 1#1) (y) : IsR (x7 y) := isR_of_lt _ (congrFun h y)
theorem r8 (h : (Pre_finite.fn (F := Ideal) x0 x1 x2 x3 x4 x5 x6 x7 x8).2.2.2.2.2.2.2.2 = fun _ => 1#1) (y) : IsR (x8 y) := isR_of_lt _ (congrFun h y)
end

open Cert.ReferenceIdeal in
theorem row_real (x0 x1 : FVec Ideal S4096x1024 .f32) (x2 : FVec Ideal S4096x512 .f32) (x3 : FVec Ideal S4096x3072 .f32)
    (h0 : ∀ y, IsR (x0 y)) (h1 : ∀ y, IsR (x1 y)) (h2 : ∀ y, IsR (x2 y)) (h3 : ∀ y, IsR (x3 y)) (i : Fin 4096) :
    (Ref1.row x0 x1 x2 x3 i).Real where
  x := fun _ => h0 _
  t := fun _ => h1 _
  y := fun _ => h2 _
  zs := fun _ => h3 _
  bc := fun _ => h3 _
  zc := fun _ => h3 _
  v := fun _ => (h3 _).mul (h3 _)
  v1 := fun j => by
    show IsR (if h : 1 ≤ i.val % 2048 then Ref1.vv x3 ⟨i.val - 1, by omega⟩ j else 0)
    by_cases h : 1 ≤ i.val % 2048
    · rw [dif_pos h]; exact (h3 _).mul (h3 _)
    · rw [dif_neg h]; exact IsR.zero
  v2 := fun j => by
    show IsR (if h : 2 ≤ i.val % 2048 then Ref1.vv x3 ⟨i.val - 2, by omega⟩ j else 0)
    by_cases h : 2 ≤ i.val % 2048
    · rw [dif_pos h]; exact (h3 _).mul (h3 _)
    · rw [dif_neg h]; exact IsR.zero

open Cert.ReferenceIdeal in
theorem wts_real (x4 : FVec Ideal S1x1024 .f32) (x5 : FVec Ideal S1x512 .f32) (x6 : FVec Ideal S8x512 .f32)
    (x7 : FVec Ideal S512x512 .bf16) (x8 : FVec Ideal S1024x1024 .bf16)
    (h4 : ∀ y, IsR (x4 y)) (h5 : ∀ y, IsR (x5 y)) (h6 : ∀ y, IsR (x6 y)) (h7 : ∀ y, IsR (x7 y)) (h8 : ∀ y, IsR (x8 y)) :
    (Ref1.wts x4 x5 x6 x7 x8).Real where
  gf := fun _ => h4 _
  bg := fun _ => h5 _
  w0 := fun _ => h6 _
  w1 := fun _ => h6 _
  w2 := fun _ => h6 _
  wg := fun _ _ => h7 _
  woS := fun _ _ => h8 _
  woC := fun _ _ => h8 _

end Cert.MixReal

end
-- ==== Proof.MixTile.lean ====
/- One tile of the tail and its backward, element by element: each stage of the tile's arithmetic at row `r` is the same
   stage of row `r`'s own inputs. -/
module

public import proofs.«01_k».proof.Proof.MixMath
public import proofs.«01_k».proof.Proof.Gen.KernelIdeal.Skeleton
public import Idealize.ShloMosaic.Lib.Pipeline.ValueKit
public import Idealize.ShloMosaic.Lib.WordCmp

@[expose] public section

set_option maxRecDepth 16384

noncomputable section

namespace Cert.MixTile

open Idealize.ShloMosaic Idealize.ShloMosaic.Pointwise
open Cert.KernelIdeal Cert.KernelIdeal.Gen Cert.Mix

/-- A choice by the equality of two small numbers is that choice. -/
theorem select_eq_nat {α : Type} (n k : ℕ) (hn : n < 2 ^ 32) (hk : k < 2 ^ 32) (A B : α) :
    Scalar.select (IntOp.cmpi .eq (BitVec.ofNat 32 n) (BitVec.ofNat 32 k)) A B = if n = k then A else B := by
  rw [WordCmp.cmpi_eq_ofNat hn hk]
  by_cases h : n = k <;> simp [h, Scalar.select]

theorem cubic_named : Named.named (F := Ideal) (φ := .f32) κ "gelu_cubic" 0x3D372713#32 = cub :=
  IdealRules.named_const.ideal_named_scalar _ _ _ _ rfl
theorem slope_named : Named.named (F := Ideal) (φ := .f32) κ "gelu_cubic_slope" 0x3E095D4F#32 = Mix.slope :=
  IdealRules.named_const.ideal_named_scalar _ _ _ _ rfl

/-- A tile's inputs: the grid point, the windows of the arguments, the eight rows before the tile, the taps as rows, the two
    halves of the output matrix. -/
structure Tile where
  i : grid0.Coords
  x : Vec Ideal S256x1024 .f32
  tg : Vec Ideal S256x1024 .f32
  y : Vec Ideal S256x512 .f32
  zs : Vec Ideal S256x512 .f32
  h : Vec Ideal S256x512 .f32
  bc : Vec Ideal S256x512 .f32
  cc : Vec Ideal S256x512 .f32
  zc : Vec Ideal S256x512 .f32
  hp : Vec Ideal S8x512 .f32
  ccp : Vec Ideal S8x512 .f32
  gf : Vec Ideal S1x1024 .f32
  bg : Vec Ideal S1x512 .f32
  w0 : Vec Ideal S1x512 .f32
  w1 : Vec Ideal S1x512 .f32
  w2 : Vec Ideal S1x512 .f32
  wg : Vec Ideal S512x512 .bf16
  woS : Vec Ideal S512x1024 .bf16
  woC : Vec Ideal S512x1024 .bf16

namespace Tile

variable (T : Tile)

/-! The tile's stages. -/

abbrev s71 : BitVec 32 := Scalar.select (Scalar.cmpi .eq 8#32 0#32) 1#32 8#32
abbrev s72 : BitVec 32 := Scalar.remsi (BitVec.ofNat 32 (T.i 0).val) s71
abbrev s73 : BitVec 1 := Scalar.cmpi .ne T.s72 0#32
abbrev s74 : BitVec 1 := Scalar.cmpi .slt T.s72 0#32
abbrev s75 : BitVec 1 := Scalar.cmpi .slt s71 0#32
abbrev p16 : FVec Ideal S256x512 .f32 := k0_pay12 T.y
abbrev p38 : FVec Ideal S256x512 .f32 := k0_pay15 T.y T.wg
abbrev p48 : FVec Ideal S256x512 .f32 := k0_pay16 T.p38 T.bg
abbrev p49 : FVec Ideal S256x512 .f32 := k0_pay17 T.p16 T.p38 T.bg
abbrev p58 : FVec Ideal S256x512 .f32 := k0_pay19 T.zs
abbrev p64 : FVec Ideal S256x512 .f32 := k0_pay20 T.zs
abbrev p65 : FVec Ideal S256x512 .f32 := k0_pay21 T.p16 T.p38 T.bg T.zs
abbrev p69 : FVec Ideal S256x512 .f32 := k0_pay22 T.h T.cc
abbrev p93 : FVec Ideal S256x512 .f32 := k0_pay24 T.p69 s71 T.s72 T.s73 T.s74 s75 T.ccp T.hp
abbrev p107 : FVec Ideal S256x512 .f32 := k0_pay25 T.p69 s71 T.s72 T.s73 T.s74 s75 T.ccp T.hp
abbrev p118 : FVec Ideal S256x512 .f32 := k0_pay26 T.p69 s71 T.s72 T.s73 T.s74 s75 T.ccp T.hp T.w0 T.w1 T.w2
abbrev p127 : FVec Ideal S256x512 .f32 := k0_pay28 T.zc
abbrev p133 : FVec Ideal S256x512 .f32 := k0_pay29 T.zc
abbrev p136 : FVec Ideal S256x512 .bf16 := k0_pay30 T.p65
abbrev p137 : FVec Ideal S256x512 .bf16 := k0_pay31 T.bc T.p118 T.zc
abbrev p144 : FVec Ideal S256x1024 .f32 := k0_pay32 T.p65 T.bc T.p118 T.zc T.x T.woS T.woC
abbrev p152 : FVec Ideal S256x1 .f32 := k0_pay33 T.p65 T.bc T.p118 T.zc T.x T.woS T.woC
abbrev p154 : FVec Ideal S256x1024 .f32 := k0_pay34 T.p65 T.bc T.p118 T.zc T.x T.woS T.woC
abbrev p157 : FVec Ideal S256x1024 .f32 := k0_pay35 T.p65 T.bc T.p118 T.zc T.x T.woS T.woC T.gf
abbrev p197 : FVec Ideal S256x1024 .f32 := k0_pay40 T.p152 T.p154 T.gf T.p157 T.tg
abbrev p217 : FVec Ideal S256x512 .f32 := k0_pay46 T.p197 T.woC
abbrev p229 : FVec Ideal S256x512 .f32 := k0_pay49 T.p16 T.p48 T.p58 T.p197 T.woS
abbrev p230 : FVec Ideal S256x512 .bf16 := k0_pay50 T.p16 T.p48 T.p58 T.p197 T.woS
abbrev p231 : FVec Ideal S256x512 .f32 := k0_pay51 T.p48 T.p58 T.p197 T.woS
abbrev p259 : FVec Ideal S256x512 .f32 := k0_pay56 T.bc T.p127 T.p217

/-- The row `r` of a tile. -/
def row (r : Fin 256) : Row where
  x := fun j => T.x (ix2 r j)
  t := fun j => T.tg (ix2 r j)
  y := fun j => T.y (ix2 r j)
  zs := fun j => T.zs (ix2 r j)
  bc := fun j => T.bc (ix2 r j)
  zc := fun j => T.zc (ix2 r j)
  v := fun j => T.p69 (ix2 r j)
  v1 := fun j => T.p93 (ix2 r j)
  v2 := fun j => T.p107 (ix2 r j)

/-- The weights of a tile. -/
def wts : Wts where
  gf := fun j => T.gf (ix2 0 j)
  bg := fun j => T.bg (ix2 0 j)
  w0 := fun j => T.w0 (ix2 0 j)
  w1 := fun j => T.w1 (ix2 0 j)
  w2 := fun j => T.w2 (ix2 0 j)
  wg := fun k j => T.wg (ix2 k j)
  woS := fun k j => T.woS (ix2 k j)
  woC := fun k j => T.woC (ix2 k j)

theorem v_at (r : Fin 256) (j : Fin 512) : T.p69 (ix2 r j) = T.cc (ix2 r j) * T.h (ix2 r j) := by pointwise [k0_pay22]

/-- The eight rows before the tile's first: none at a sequence's first tile. -/
theorem halo_at (r : Fin 8) (j : Fin 512) :
    k0_pay23 (F := Ideal) s71 T.s72 T.s73 T.s74 s75 T.ccp T.hp (ix2 r j)
      = if (T.i 0).val % 8 = 0 then (0 : EReal) else T.ccp (ix2 r j) * T.hp (ix2 r j) := by
  have hi : (T.i 0).val < 16 := (T.i 0).isLt
  unfold k0_pay23 s75 s74 s73 s72 s71
  generalize (T.i 0).val = n at hi ⊢
  interval_cases n <;> pointwise [] <;> rfl

theorem v1_at (r : Fin 256) (j : Fin 512) : T.p93 (ix2 r j)
    = if h : 1 ≤ r.val then T.cc (ix2 ⟨r.val - 1, by omega⟩ j) * T.h (ix2 ⟨r.val - 1, by omega⟩ j)
      else if (T.i 0).val % 8 = 0 then (0 : EReal) else T.ccp (ix2 7 j) * T.hp (ix2 7 j) := by
  have hr := r.isLt
  have e7 := T.halo_at 7 j
  unfold p93
  pointwise [k0_pay24]
  rw [select_eq_nat r.val 0 (by omega) (by omega)]
  by_cases h1 : 1 ≤ r.val
  · rw [if_neg (by omega), dif_pos h1, T.v_at]
    exact congrArg (fun q => T.cc (ix2 q j) * T.h (ix2 q j)) (Fin.ext (by simp only []; omega))
  · rw [if_pos (by omega), dif_neg h1, e7]

theorem v2_at (r : Fin 256) (j : Fin 512) : T.p107 (ix2 r j)
    = if h : 2 ≤ r.val then T.cc (ix2 ⟨r.val - 2, by omega⟩ j) * T.h (ix2 ⟨r.val - 2, by omega⟩ j)
      else if (T.i 0).val % 8 = 0 then (0 : EReal) else T.ccp (ix2 ⟨r.val + 6, by omega⟩ j) * T.hp (ix2 ⟨r.val + 6, by omega⟩ j) := by
  have hr := r.isLt
  have e6 := T.halo_at 6 j
  have e7 := T.halo_at 7 j
  unfold p107
  pointwise [k0_pay25]
  rw [select_eq_nat r.val 1 (by omega) (by omega), select_eq_nat r.val 0 (by omega) (by omega)]
  by_cases h1 : 2 ≤ r.val
  · rw [if_neg (by omega), if_neg (by omega), dif_pos h1, T.v_at]
    exact congrArg (fun q => T.cc (ix2 q j) * T.h (ix2 q j)) (Fin.ext (by simp only []; omega))
  · rw [dif_neg h1]
    by_cases h2 : r.val = 1
    · have : (⟨r.val + 6, by omega⟩ : Fin 8) = 7 := Fin.ext (by simp only []; omega)
      rw [if_pos h2, e7, this]
    · have : (⟨r.val + 6, by omega⟩ : Fin 8) = 6 := Fin.ext (by simp only []; omega)
      rw [if_neg h2, if_pos (by omega), e6, this]

theorem th_at (y : Vec Ideal S256x512 .f32) (r : Fin 256) (j : Fin 512) : k0_pay11 (F := Ideal) y (ix2 r j) = th (y (ix2 r j)) := by
  pointwise [k0_pay11]
  rw [cubic_named]
  rfl

theorem gelu_at (r : Fin 256) (j : Fin 512) : T.p16 (ix2 r j) = gelu (T.y (ix2 r j)) := by
  unfold p16
  pointwise [k0_pay12]
  rw [th_at]
  rfl

theorem dgelu_at (r : Fin 256) (j : Fin 512) : k0_pay13 (F := Ideal) T.y (ix2 r j) = dgelu (T.y (ix2 r j)) := by
  pointwise [k0_pay13]
  rw [th_at, slope_named]
  rfl

theorem gate_at (r : Fin 256) (j : Fin 512) : T.p48 (ix2 r j) = gate T.wts (T.row r) j := by
  unfold p48 p38
  pointwise [k0_pay16, k0_pay15, k0_pay14]
  have e := T.gelu_at r
  unfold p16 at e
  simp only [e]
  rfl

theorem y2_at (r : Fin 256) (j : Fin 512) : T.p49 (ix2 r j) = y2 T.wts (T.row r) j := by
  have e := T.gate_at r j
  have e' := T.gelu_at r j
  unfold p49
  unfold p48 at e
  pointwise [k0_pay17]
  rw [e, e']
  rfl

theorem silu_at (z : Vec Ideal S256x512 .f32) (r : Fin 256) (j : Fin 512) : k0_pay19 (F := Ideal) z (ix2 r j) = z (ix2 r j) * sig (z (ix2 r j)) := by
  pointwise [k0_pay19, k0_pay18]; rfl
theorem dsilu_at (z : Vec Ideal S256x512 .f32) (r : Fin 256) (j : Fin 512) : k0_pay20 (F := Ideal) z (ix2 r j) = dsilu (z (ix2 r j)) := by
  pointwise [k0_pay20, k0_pay18]; rfl
theorem siluC_at (z : Vec Ideal S256x512 .f32) (r : Fin 256) (j : Fin 512) : k0_pay28 (F := Ideal) z (ix2 r j) = z (ix2 r j) * sig (z (ix2 r j)) := by
  pointwise [k0_pay28, k0_pay27]; rfl
theorem dsiluC_at (z : Vec Ideal S256x512 .f32) (r : Fin 256) (j : Fin 512) : k0_pay29 (F := Ideal) z (ix2 r j) = dsilu (z (ix2 r j)) := by
  pointwise [k0_pay29, k0_pay27]; rfl

theorem yssm_at (r : Fin 256) (j : Fin 512) : T.p65 (ix2 r j) = yssm T.wts (T.row r) j := by
  have e := T.y2_at r j
  unfold p49 at e
  unfold p65
  pointwise [k0_pay21]
  rw [e, silu_at]
  rfl

theorem yc_at (r : Fin 256) (j : Fin 512) : T.p118 (ix2 r j) = yc T.wts (T.row r) j := by
  unfold p118
  pointwise [k0_pay26]
  rfl

theorem yssmB_at (r : Fin 256) (j : Fin 512) : T.p136 (ix2 r j) = yssm T.wts (T.row r) j := by
  unfold p136
  pointwise [k0_pay30]
  exact T.yssm_at r j

theorem yconvB_at (r : Fin 256) (j : Fin 512) : T.p137 (ix2 r j) = yconv T.wts (T.row r) j := by
  have e := T.yc_at r j
  unfold p137
  pointwise [k0_pay31]
  rw [e, siluC_at]
  rfl

theorem h2_at (r : Fin 256) (j : Fin 1024) : T.p144 (ix2 r j) = h2 T.wts (T.row r) j := by
  have e := T.yssmB_at r
  have e' := T.yconvB_at r
  unfold p136 at e
  unfold p137 at e'
  unfold p144
  pointwise [k0_pay32]
  simp only [e, e']
  rfl

theorem rr_at (r : Fin 256) : T.p152 (ix2 r 0) = rr T.wts (T.row r) := by
  have e := T.h2_at r
  unfold p144 at e
  unfold p152
  pointwise [k0_pay33]
  simp only [e]
  rfl

theorem hn_at (r : Fin 256) (j : Fin 1024) : T.p154 (ix2 r j) = hn T.wts (T.row r) j := by
  have e := T.h2_at r j
  have e' := T.rr_at r
  unfold p144 at e
  unfold p152 at e'
  unfold p154
  pointwise [k0_pay34]
  rw [e, e']
  rfl

theorem err_at (r : Fin 256) (j : Fin 1024) : k0_pay36 (F := Ideal) T.p157 T.tg (ix2 r j) = err T.wts (T.row r) j := by
  have e := T.hn_at r j
  unfold p154 at e
  unfold p157
  pointwise [k0_pay36, k0_pay35]
  rw [e]
  rfl

theorem dout_at (r : Fin 256) (j : Fin 1024) : k0_pay38 (F := Ideal) T.p157 T.tg (ix2 r j) = dout T.wts (T.row r) j := by
  have e := T.err_at r j
  pointwise [k0_pay38]
  rw [e]
  rfl

theorem dh2_at (r : Fin 256) (j : Fin 1024) : T.p197 (ix2 r j) = dh2 T.wts (T.row r) j := by
  have e := T.dout_at r
  have e' := T.hn_at r
  have e'' := T.rr_at r
  unfold p197
  pointwise [k0_pay40]
  simp only [e, e', e'']
  rfl

theorem dh2B_at (r : Fin 256) (j : Fin 1024) : k0_pay42 (F := Ideal) T.p197 (ix2 r j) = dh2 T.wts (T.row r) j := by
  pointwise [k0_pay42]
  exact T.dh2_at r j

theorem dyssm_at (r : Fin 256) (k : Fin 512) : k0_pay45 (F := Ideal) T.p197 T.woS (ix2 r k) = dyssm T.wts (T.row r) k := by
  have e := T.dh2B_at r
  pointwise [k0_pay45]
  simp only [e]
  rfl

theorem dyconv_at (r : Fin 256) (k : Fin 512) : T.p217 (ix2 r k) = dyconv T.wts (T.row r) k := by
  have e := T.dh2B_at r
  unfold p217
  pointwise [k0_pay46]
  simp only [e]
  rfl

theorem dy2_at (r : Fin 256) (k : Fin 512) : k0_pay47 (F := Ideal) T.p58 T.p197 T.woS (ix2 r k) = dy2 T.wts (T.row r) k := by
  have e := T.dyssm_at r k
  pointwise [k0_pay47]
  rw [e]
  unfold p58
  rw [silu_at]
  rfl

theorem dgp_at (r : Fin 256) (k : Fin 512) : T.p229 (ix2 r k) = dgp T.wts (T.row r) k := by
  have e := T.dy2_at r k
  have e' := T.gate_at r k
  have e'' := T.gelu_at r k
  unfold p229
  pointwise [k0_pay49]
  rw [e, e', e'']
  rfl

theorem dgpB_at (r : Fin 256) (k : Fin 512) : T.p230 (ix2 r k) = dgp T.wts (T.row r) k := by
  have e := T.dgp_at r k
  unfold p230
  pointwise [k0_pay50]
  exact e

theorem geluB_at (r : Fin 256) (k : Fin 512) : k0_pay14 (F := Ideal) T.y (ix2 r k) = gelu (T.y (ix2 r k)) := by
  pointwise [k0_pay14]
  exact T.gelu_at r k

/-! What the tile stores. -/

theorem st_dh2 (r : Fin 256) (j : Fin 1024) : k0_pay41 (F := Ideal) T.p197 (ix2 r j) = dh2 T.wts (T.row r) j := by
  pointwise [k0_pay41]
  exact T.dh2_at r j

theorem st_dy (r : Fin 256) (k : Fin 512) :
    k0_pay54 (F := Ideal) (k0_pay13 T.y) T.p230 T.p231 T.wg (ix2 r k) = dy T.wts (T.row r) k := by
  have e := T.dy2_at r k
  have e' := T.gate_at r k
  have e'' := T.dgpB_at r
  have e3 := T.dgelu_at r k
  pointwise [k0_pay54]
  unfold p231
  pointwise [k0_pay51]
  simp only [e, e', e'', e3]
  rfl

theorem st_dzs (r : Fin 256) (k : Fin 512) :
    k0_pay48 (F := Ideal) T.p49 T.p64 T.p197 T.woS (ix2 r k) = dzs T.wts (T.row r) k := by
  have e := T.dyssm_at r k
  have e' := T.y2_at r k
  pointwise [k0_pay48]
  rw [e, e']
  unfold p64
  rw [dsilu_at]
  rfl

theorem st_dbc (r : Fin 256) (k : Fin 512) :
    k0_pay55 (F := Ideal) T.p118 T.p127 T.p217 (ix2 r k) = dbc T.wts (T.row r) k := by
  have e := T.dyconv_at r k
  have e' := T.yc_at r k
  pointwise [k0_pay55]
  rw [e, e']
  unfold p127
  rw [siluC_at]
  rfl

theorem dyc_at (r : Fin 256) (k : Fin 512) : T.p259 (ix2 r k) = dyc T.wts (T.row r) k := by
  have e := T.dyconv_at r k
  unfold p259
  pointwise [k0_pay56]
  rw [e]
  unfold p127
  rw [siluC_at]
  rfl

theorem st_dyc (r : Fin 256) (k : Fin 512) :
    k0_pay57 (F := Ideal) T.bc T.p127 T.p217 (ix2 r k) = dyc T.wts (T.row r) k := by
  pointwise [k0_pay57]
  exact T.dyc_at r k

theorem st_dzc (r : Fin 256) (k : Fin 512) :
    k0_pay1 (F := Ideal) (k0_pay58 T.bc T.p118 T.p133 T.p217) (ix2 r k) = dzc T.wts (T.row r) k := by
  have e := T.dyconv_at r k
  have e' := T.yc_at r k
  pointwise [k0_pay1, k0_pay58]
  rw [e, e']
  unfold p133
  rw [dsiluC_at]
  rfl

/-! What the tile adds to the accumulated outputs. -/

theorem ac_woS (acc : Vec Ideal S512x1024 .f32) (k : Fin 512) (j : Fin 1024) :
    k0_pay43 (F := Ideal) T.p136 T.p197 acc (ix2 k j)
      = acc (ix2 k j) + ∑ r : Fin 256, yssm T.wts (T.row r) k * dh2 T.wts (T.row r) j := by
  have e := fun r => T.yssmB_at r k
  have e' := fun r => T.dh2B_at r j
  pointwise [k0_pay43]
  simp only [e, e']

theorem ac_woC (acc : Vec Ideal S512x1024 .f32) (k : Fin 512) (j : Fin 1024) :
    k0_pay44 (F := Ideal) T.p137 T.p197 acc (ix2 k j)
      = acc (ix2 k j) + ∑ r : Fin 256, yconv T.wts (T.row r) k * dh2 T.wts (T.row r) j := by
  have e := fun r => T.yconvB_at r k
  have e' := fun r => T.dh2B_at r j
  pointwise [k0_pay44]
  simp only [e, e']

theorem ac_wg (acc : Vec Ideal S512x512 .f32) (k j : Fin 512) :
    k0_pay52 (F := Ideal) (k0_pay14 T.y) T.p230 acc (ix2 k j)
      = acc (ix2 k j) + ∑ r : Fin 256, gelu ((T.row r).y k) * dgp T.wts (T.row r) j := by
  have e := fun r => T.geluB_at r k
  have e' := fun r => T.dgpB_at r j
  pointwise [k0_pay52]
  simp only [e, e']
  rfl

theorem ac_loss (acc : Vec Ideal S8x128 .f32) (a : Fin 8) (b : Fin 128) :
    k0_pay37 (F := Ideal) T.p157 T.tg acc (ix2 a b)
      = acc (ix2 a b) + half * ∑ r : Fin 256, rowLoss T.wts (T.row r) := by
  have e := fun r j => T.err_at r j
  pointwise [k0_pay37]
  simp only [Finset.univ_unique, Finset.sum_singleton, e]
  rfl

theorem ac_gf (acc : Vec Ideal S1x1024 .f32) (j : Fin 1024) :
    k0_pay39 (F := Ideal) T.p154 T.p157 T.tg acc (ix2 0 j)
      = acc (ix2 0 j) + ∑ r : Fin 256, dout T.wts (T.row r) j * hn T.wts (T.row r) j := by
  have e := fun r => T.dout_at r j
  have e' := fun r => T.hn_at r j
  pointwise [k0_pay39]
  simp only [e, e']

theorem ac_bg (acc : Vec Ideal S1x512 .f32) (j : Fin 512) :
    k0_pay53 (F := Ideal) T.p229 acc (ix2 0 j) = acc (ix2 0 j) + ∑ r : Fin 256, dgp T.wts (T.row r) j := by
  have e := fun r => T.dgp_at r j
  pointwise [k0_pay53]
  simp only [e]

theorem ac_w0 (acc : Vec Ideal S1x512 .f32) (j : Fin 512) :
    k0_pay2 (F := Ideal) T.p107 T.p259 acc (ix2 0 j) = acc (ix2 0 j) + ∑ r : Fin 256, dyc T.wts (T.row r) j * (T.row r).v2 j := by
  have e := fun r => T.dyc_at r j
  pointwise [k0_pay2]
  simp only [e]
  rfl

theorem ac_w1 (acc : Vec Ideal S1x512 .f32) (j : Fin 512) :
    k0_pay3 (F := Ideal) T.p93 T.p259 acc (ix2 0 j) = acc (ix2 0 j) + ∑ r : Fin 256, dyc T.wts (T.row r) j * (T.row r).v1 j := by
  have e := fun r => T.dyc_at r j
  pointwise [k0_pay3]
  simp only [e]
  rfl

theorem ac_w2 (acc : Vec Ideal S1x512 .f32) (j : Fin 512) :
    k0_pay4 (F := Ideal) T.p69 T.p259 acc (ix2 0 j) = acc (ix2 0 j) + ∑ r : Fin 256, dyc T.wts (T.row r) j * (T.row r).v j := by
  have e := fun r => T.dyc_at r j
  pointwise [k0_pay4]
  simp only [e]
  rfl

end Tile

end Cert.MixTile

end
-- ==== Proof.MixBlocks.lean ====
/- The blocks of the mixing call's points: row `r` of the tile at point `t` is token `256 t + r` of the arguments. -/
module

public import proofs.«01_k».proof.Proof.MixTile
public import proofs.«01_k».proof.Proof.Ref1
public import proofs.«01_k».proof.Proof.MixRun

@[expose] public section

set_option maxRecDepth 16384

noncomputable section

namespace Cert.MixCall

open Idealize.ShloMosaic Idealize.ShloMosaic.Pointwise Idealize.ShloMosaic.TcCoe
open Idealize.ShloMosaic.Pipeline (Dat Cfg Window)
open Cert.KernelIdeal Cert.KernelIdeal.Gen Cert.Mix Cert.MixTile

theorem coord : ∀ t : Fin cfg0.N, (grid0.coords t 0).val = t.val := (by decide +kernel : ∀ t : Fin grid0.N, _)

theorem idx : ∀ t : Fin cfg0.N, win0_0.index t = ![t.val, 0] ∧ win0_1.index t = ![t.val, 0] ∧ win0_2.index t = ![t.val, 0]
    ∧ win0_3.index t = ![t.val, 1] ∧ win0_4.index t = ![t.val, 2] ∧ win0_5.index t = ![t.val, 3] ∧ win0_6.index t = ![t.val, 4]
    ∧ win0_7.index t = ![t.val, 5] ∧ win0_8.index t = ![t.val * 32 - 1, 2] ∧ win0_9.index t = ![t.val * 32 - 1, 4]
    ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

theorem idxO : ∀ t : Fin cfg0.N, win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![0, 0] ∧ win0_22.index t = ![0, 0]
    ∧ win0_23.index t = ![0, 0] ∧ win0_24.index t = ![0, 0] ∧ win0_25.index t = ![0, 0] ∧ win0_26.index t = ![0, 0] :=
  (by decide +kernel : ∀ t : Fin grid0.N, _)

variable (m : (ℓ : Loc nD τ sig) → Buf (Elt Ideal) ℓ) (c : Dev nD)

abbrev X0 : FVec Ideal S4096x1024 .f32 := m ((c : Thread nD τ).loc main_arg0)
abbrev X1 : FVec Ideal S4096x1024 .f32 := m ((c : Thread nD τ).loc main_arg1)
abbrev X2 : FVec Ideal S4096x512 .f32 := m ((c : Thread nD τ).loc main_arg2)
abbrev X3 : FVec Ideal S4096x3072 .f32 := m ((c : Thread nD τ).loc main_arg3)
abbrev X4 : FVec Ideal S1x1024 .f32 := m ((c : Thread nD τ).loc main_arg4)
abbrev X5 : FVec Ideal S1x512 .f32 := m ((c : Thread nD τ).loc main_arg5)
abbrev X6 : FVec Ideal S8x512 .f32 := m ((c : Thread nD τ).loc main_arg6)
abbrev X7 : FVec Ideal S512x512 .bf16 := m ((c : Thread nD τ).loc main_arg7)
abbrev X8 : FVec Ideal S1024x1024 .bf16 := m ((c : Thread nD τ).loc main_arg8)

variable (t : Fin cfg0.N)

theorem ht16 : t.val < 16 := lt_of_lt_of_eq t.isLt N_0

section Blocks
variable (r : Fin 256) (i : Fin 4096) (hi : i.val = 256 * t.val + r.val)
include hi

theorem b0 (j : Fin 1024) : iblk m c 0 t (ix2 r j) = X0 m c (ix2 i j) := by blk_point [iblk, V, idx t]
theorem b1 (j : Fin 1024) : iblk m c 1 t (ix2 r j) = X1 m c (ix2 i j) := by blk_point [iblk, V, idx t]
theorem b2 (j : Fin 512) : iblk m c 2 t (ix2 r j) = X2 m c (ix2 i j) := by blk_point [iblk, V, idx t]
theorem b3 (j : Fin 512) : iblk m c 3 t (ix2 r j) = X3 m c (ix2 i ⟨512 + j.val, by omega⟩) := by blk_point [iblk, V, idx t]
theorem b4 (j : Fin 512) : iblk m c 4 t (ix2 r j) = X3 m c (ix2 i ⟨1024 + j.val, by omega⟩) := by blk_point [iblk, V, idx t]
theorem b5 (j : Fin 512) : iblk m c 5 t (ix2 r j) = X3 m c (ix2 i ⟨1536 + j.val, by omega⟩) := by blk_point [iblk, V, idx t]
theorem b6 (j : Fin 512) : iblk m c 6 t (ix2 r j) = X3 m c (ix2 i ⟨2048 + j.val, by omega⟩) := by blk_point [iblk, V, idx t]
theorem b7 (j : Fin 512) : iblk m c 7 t (ix2 r j) = X3 m c (ix2 i ⟨2560 + j.val, by omega⟩) := by blk_point [iblk, V, idx t]

end Blocks

/-! The eight rows before a tile that is not the first. -/

theorem b8 (ht : 0 < t.val) (r : Fin 8) (j : Fin 512) (i : Fin 4096) (hi : i.val + 8 = 256 * t.val + r.val) :
    iblk m c 8 t (ix2 r j) = X3 m c (ix2 i ⟨1024 + j.val, by omega⟩) := by blk_point [iblk, V, idx t]
theorem b9 (ht : 0 < t.val) (r : Fin 8) (j : Fin 512) (i : Fin 4096) (hi : i.val + 8 = 256 * t.val + r.val) :
    iblk m c 9 t (ix2 r j) = X3 m c (ix2 i ⟨2048 + j.val, by omega⟩) := by blk_point [iblk, V, idx t]

theorem b10 (j : Fin 1024) : iblk m c 10 t (ix2 0 j) = X4 m c (ix2 0 j) := by blk_point [iblk, V, idx t]
theorem b11 (j : Fin 512) : iblk m c 11 t (ix2 0 j) = X5 m c (ix2 0 j) := by blk_point [iblk, V, idx t]
theorem b13 (k j : Fin 512) : iblk m c 13 t (ix2 k j) = X7 m c (ix2 k j) := by blk_point [iblk, V, idx t]

abbrev w0T : Vec Ideal S1x512 .f32 := View.ld (iblk m c 12 t) (Rect.unit ![0, 0] ![1, 512] inb_S8x512_S1x512_0_0)
abbrev w1T : Vec Ideal S1x512 .f32 := View.ld (iblk m c 12 t) (Rect.unit ![1, 0] ![1, 512] inb_S8x512_S1x512_1_0)
abbrev w2T : Vec Ideal S1x512 .f32 := View.ld (iblk m c 12 t) (Rect.unit ![2, 0] ![1, 512] inb_S8x512_S1x512_2_0)
abbrev woST : Vec Ideal S512x1024 .bf16 := View.ld (iblk m c 14 t) (Rect.unit ![0, 0] ![512, 1024] inb_S1024x1024_S512x1024_0_0)
abbrev woCT : Vec Ideal S512x1024 .bf16 := View.ld (iblk m c 14 t) (Rect.unit ![512, 0] ![512, 1024] inb_S1024x1024_S512x1024_512_0)

theorem w0_at (j : Fin 512) : w0T m c t (ix2 0 j) = X6 m c (ix2 0 j) := by
  unfold w0T
  blk_point [iblk, V, idx t]
theorem w1_at (j : Fin 512) : w1T m c t (ix2 0 j) = X6 m c (ix2 1 j) := by
  unfold w1T
  blk_point [iblk, V, idx t]
theorem w2_at (j : Fin 512) : w2T m c t (ix2 0 j) = X6 m c (ix2 2 j) := by
  unfold w2T
  blk_point [iblk, V, idx t]
theorem woS_at (k : Fin 512) (j : Fin 1024) : woST m c t (ix2 k j) = X8 m c (ix2 ⟨k.val, by omega⟩ j) := by
  unfold woST
  blk_point [iblk, V, idx t]
theorem woC_at (k : Fin 512) (j : Fin 1024) : woCT m c t (ix2 k j) = X8 m c (ix2 ⟨512 + k.val, by omega⟩ j) := by
  unfold woCT
  blk_point [iblk, V, idx t]

/-- The tile of point `t`. -/
abbrev tile : Tile where
  i := grid0.coords t
  x := iblk m c 0 t
  tg := iblk m c 1 t
  y := iblk m c 2 t
  zs := iblk m c 3 t
  h := iblk m c 4 t
  bc := iblk m c 5 t
  cc := iblk m c 6 t
  zc := iblk m c 7 t
  hp := iblk m c 8 t
  ccp := iblk m c 9 t
  gf := iblk m c 10 t
  bg := iblk m c 11 t
  w0 := w0T m c t
  w1 := w1T m c t
  w2 := w2T m c t
  wg := iblk m c 13 t
  woS := woST m c t
  woC := woCT m c t

abbrev W := Ref1.wts (X4 m c) (X5 m c) (X6 m c) (X7 m c) (X8 m c)
abbrev R (i : Fin 4096) := Ref1.row (X0 m c) (X1 m c) (X2 m c) (X3 m c) i

theorem wts_ext {W W' : Wts} (h1 : ∀ j, W.gf j = W'.gf j) (h2 : ∀ j, W.bg j = W'.bg j) (h3 : ∀ j, W.w0 j = W'.w0 j) (h4 : ∀ j, W.w1 j = W'.w1 j)
    (h5 : ∀ j, W.w2 j = W'.w2 j) (h6 : ∀ k j, W.wg k j = W'.wg k j) (h7 : ∀ k j, W.woS k j = W'.woS k j) (h8 : ∀ k j, W.woC k j = W'.woC k j) : W = W' := by
  cases W; cases W'
  simp only [Wts.mk.injEq]
  exact ⟨funext h1, funext h2, funext h3, funext h4, funext h5, funext fun k => funext (h6 k), funext fun k => funext (h7 k), funext fun k => funext (h8 k)⟩

theorem row_ext {R R' : Row} (h1 : ∀ j, R.x j = R'.x j) (h2 : ∀ j, R.t j = R'.t j) (h3 : ∀ j, R.y j = R'.y j) (h4 : ∀ j, R.zs j = R'.zs j)
    (h5 : ∀ j, R.bc j = R'.bc j) (h6 : ∀ j, R.zc j = R'.zc j) (h7 : ∀ j, R.v j = R'.v j) (h8 : ∀ j, R.v1 j = R'.v1 j) (h9 : ∀ j, R.v2 j = R'.v2 j) : R = R' := by
  cases R; cases R'
  simp only [Row.mk.injEq]
  exact ⟨funext h1, funext h2, funext h3, funext h4, funext h5, funext h6, funext h7, funext h8, funext h9⟩

theorem wts_eq : (tile m c t).wts = W m c :=
  wts_ext (b10 m c t) (b11 m c t) (w0_at m c t) (w1_at m c t) (w2_at m c t) (b13 m c t) (woS_at m c t) (woC_at m c t)

theorem vv_of (a b : EReal) (i : Fin 4096) (j : Fin 512) (ha : a = X3 m c (ix2 i ⟨2048 + j.val, by omega⟩))
    (hb : b = X3 m c (ix2 i ⟨1024 + j.val, by omega⟩)) : a * b = Ref1.vv (X3 m c) i j := by
  rw [ha, hb]; rfl

theorem row_eq (r : Fin 256) (i : Fin 4096) (hi : i.val = 256 * t.val + r.val) : (tile m c t).row r = R m c i := by
  have ht := ht16 t
  have hr := r.isLt
  refine row_ext (b0 m c t r i hi) (b1 m c t r i hi) (b2 m c t r i hi) (b3 m c t r i hi) (b5 m c t r i hi) (b7 m c t r i hi)
    (fun j => ((tile m c t).v_at r j).trans (vv_of m c _ _ i j (b6 m c t r i hi j) (b4 m c t r i hi j)))
    (fun j => ((tile m c t).v1_at r j).trans ?_) (fun j => ((tile m c t).v2_at r j).trans ?_)
  · show _ = if h : 1 ≤ i.val % 2048 then Ref1.vv (X3 m c) ⟨i.val - 1, by omega⟩ j else 0
    have e : ((tile m c t).i 0).val = t.val := coord t
    rw [e]
    by_cases h1 : 1 ≤ r.val
    · rw [dif_pos h1, dif_pos (by omega : 1 ≤ i.val % 2048)]
      exact vv_of m c _ _ _ j (b6 m c t _ _ (by simp only []; omega) j) (b4 m c t _ _ (by simp only []; omega) j)
    · rw [dif_neg h1]
      by_cases h2 : t.val % 8 = 0
      · rw [if_pos h2, dif_neg (by omega : ¬1 ≤ i.val % 2048)]
      · rw [if_neg h2, dif_pos (by omega : 1 ≤ i.val % 2048)]
        have h7 : i.val - 1 + 8 = 256 * t.val + (7 : Fin 8).val := by show _ = _ + 7; omega
        exact vv_of m c _ _ _ j (b9 m c t (by omega) 7 j _ h7) (b8 m c t (by omega) 7 j _ h7)
  · show _ = if h : 2 ≤ i.val % 2048 then Ref1.vv (X3 m c) ⟨i.val - 2, by omega⟩ j else 0
    have e : ((tile m c t).i 0).val = t.val := coord t
    rw [e]
    by_cases h1 : 2 ≤ r.val
    · rw [dif_pos h1, dif_pos (by omega : 2 ≤ i.val % 2048)]
      exact vv_of m c _ _ _ j (b6 m c t _ _ (by simp only []; omega) j) (b4 m c t _ _ (by simp only []; omega) j)
    · rw [dif_neg h1]
      by_cases h2 : t.val % 8 = 0
      · rw [if_pos h2, dif_neg (by omega : ¬2 ≤ i.val % 2048)]
      · rw [if_neg h2, dif_pos (by omega : 2 ≤ i.val % 2048)]
        have h7 : i.val - 2 + 8 = 256 * t.val + (⟨r.val + 6, by omega⟩ : Fin 8).val := by simp only []; omega
        exact vv_of m c _ _ _ j (b9 m c t (by omega) _ j _ h7) (b8 m c t (by omega) _ j _ h7)

end Cert.MixCall

end
-- ==== Proof.MixOuts.lean ====
/- What the mixing call's outputs hold after each point, in the payloads of the point's tile: the six blocks a point
   stores whole, and the six accumulators, whose contents after the last point are sums over all the rows. -/
module

public import proofs.«01_k».proof.Proof.MixBlocks
public import proofs.«01_k».proof.Proof.MixFrame

@[expose] public section

set_option maxRecDepth 16384
set_option maxHeartbeats 1000000

noncomputable section

namespace Cert.MixCall

open Idealize.ShloMosaic Idealize.ShloMosaic.Pointwise Idealize.ShloMosaic.TcCoe
open Idealize.ShloMosaic.Pipeline (Dat Cfg Window)
open Cert.KernelIdeal Cert.KernelIdeal.Gen Cert.Mix Cert.MixTile Cert.MixFrame

variable (m : (ℓ : Loc nD τ sig) → Buf (Elt Ideal) ℓ) (c : Dev nD) (t : Fin cfg0.N)

/-! The blocks stored whole. -/

theorem at_15 (y : S256x1024.Idx) : (outsAt0 m c t.val t.isLt).1 y = k0_pay41 (tile m c t).p197 y := by
  by_cases h0 : t.val % 16 = 0
  · rw [outsAt0_A m c t h0]; unfold allA; dsimp only; unfold outA_15 runA; frame_out; rfl
  · rw [outsAt0_B m c t h0]; unfold allB; dsimp only; unfold outB_15 runB; frame_out; rfl

theorem at_16 (y : S256x512.Idx) : (outsAt0 m c t.val t.isLt).2.1 y
    = k0_pay54 (k0_pay13 (tile m c t).y) (tile m c t).p230 (tile m c t).p231 (tile m c t).wg y := by
  by_cases h0 : t.val % 16 = 0
  · rw [outsAt0_A m c t h0]; unfold allA; dsimp only; unfold outA_16 runA; frame_out; rfl
  · rw [outsAt0_B m c t h0]; unfold allB; dsimp only; unfold outB_16 runB; frame_out; rfl

theorem at_17 (y : S256x512.Idx) : (outsAt0 m c t.val t.isLt).2.2.1 y
    = k0_pay48 (tile m c t).p49 (tile m c t).p64 (tile m c t).p197 (tile m c t).woS y := by
  by_cases h0 : t.val % 16 = 0
  · rw [outsAt0_A m c t h0]; unfold allA; dsimp only; unfold outA_17 runA; frame_out; rfl
  · rw [outsAt0_B m c t h0]; unfold allB; dsimp only; unfold outB_17 runB; frame_out; rfl

theorem at_18 (y : S256x512.Idx) : (outsAt0 m c t.val t.isLt).2.2.2.1 y
    = k0_pay55 (tile m c t).p118 (tile m c t).p127 (tile m c t).p217 y := by
  by_cases h0 : t.val % 16 = 0
  · rw [outsAt0_A m c t h0]; unfold allA; dsimp only; unfold outA_18 runA; frame_out; rfl
  · rw [outsAt0_B m c t h0]; unfold allB; dsimp only; unfold outB_18 runB; frame_out; rfl

theorem at_19 (y : S256x512.Idx) : (outsAt0 m c t.val t.isLt).2.2.2.2.1 y
    = k0_pay1 (k0_pay58 (tile m c t).bc (tile m c t).p118 (tile m c t).p133 (tile m c t).p217) y := by
  by_cases h0 : t.val % 16 = 0
  · rw [outsAt0_A m c t h0]; unfold allA; dsimp only; unfold outA_19 runA; frame_out; rfl
  · rw [outsAt0_B m c t h0]; unfold allB; dsimp only; unfold outB_19 runB; frame_out; rfl

theorem at_20 (y : S256x512.Idx) : (outsAt0 m c t.val t.isLt).2.2.2.2.2.1 y
    = k0_pay57 (tile m c t).bc (tile m c t).p127 (tile m c t).p217 y := by
  by_cases h0 : t.val % 16 = 0
  · rw [outsAt0_A m c t h0]; unfold allA; dsimp only; unfold outA_20 runA; frame_out; rfl
  · rw [outsAt0_B m c t h0]; unfold allB; dsimp only; unfold outB_20 runB; frame_out; rfl

/-! The accumulators: the first point stores its part over a zero, a later one adds its part to what the point before left. -/

/-- An accumulator after the last point holds the sum of the points' parts. -/
theorem acc_last {S : Shape} (g : Outs Ideal → S.Idx → EReal) (part : Fin cfg0.N → S.Idx → EReal)
    (hA : ∀ t h0 y, g (allA m c t h0) y = 0 + part t y) (hB : ∀ t h0 o y, g (allB m c t h0 o) y = g o y + part t y) (y : S.Idx) :
    g (outsAt0 m c t0_15.val t0_15.isLt) y = ∑ t, part t y := by
  rw [Pipeline.eq_sum_fin_of_reset_step_apply_last (fun n h => g (outsAt0 m c n h)) 16 (fun _ => 0) part
    (fun t h j => by rw [outsAt0_A m c t h]; exact hA t h j)
    (fun t h j => by rw [outsAt0_B m c t h]; exact hB t h _ j)
    (le_of_eq N_0) t0_15 rfl y, zero_add]

/-- Row `r` of the tile at point `t`. -/
abbrev rowOf (t : Fin cfg0.N) (r : Fin 256) : Fin 4096 := ⟨t.val * 256 + r.val, by have := ht16 t; omega⟩

theorem row_of (r : Fin 256) : (tile m c t).row r = R m c (rowOf t r) := row_eq m c t r _ (by show _ * _ + _ = _; rw [mul_comm])

theorem sum_rows (f : Fin 4096 → EReal) : ∑ t : Fin cfg0.N, ∑ r : Fin 256, f (rowOf t r) = ∑ i : Fin 4096, f i :=
  Fin.sum_mul_add_congr (fun s k hl => rfl) (by rw [show cfg0.N = 16 from N_0])

/-- A sum over the tile's rows, in the arguments. -/
theorem sum_tile (f : Wts → Row → EReal) : ∑ r : Fin 256, f (tile m c t).wts ((tile m c t).row r) = ∑ r : Fin 256, f (W m c) (R m c (rowOf t r)) := by
  simp only [wts_eq, row_of]

theorem z5 (i j : Fin 1024) : k0_pay5 (F := Ideal) (ix2 i j) = 0 := by pointwise [k0_pay5]
theorem z6 (i j : Fin 512) : k0_pay6 (F := Ideal) (ix2 i j) = 0 := by pointwise [k0_pay6]
theorem z7 (i : Fin 8) (j : Fin 128) : k0_pay7 (F := Ideal) (ix2 i j) = 0 := by pointwise [k0_pay7]
theorem z8 (i : Fin 1) (j : Fin 1024) : k0_pay8 (F := Ideal) (ix2 i j) = 0 := by pointwise [k0_pay8]
theorem z9 (i : Fin 1) (j : Fin 512) : k0_pay9 (F := Ideal) (ix2 i j) = 0 := by pointwise [k0_pay9]
theorem z10 (i : Fin 8) (j : Fin 512) : k0_pay10 (F := Ideal) (ix2 i j) = 0 := by pointwise [k0_pay10]

abbrev part22 (y : S512x512.Idx) : EReal := ∑ r : Fin 256, gelu ((R m c (rowOf t r)).y (y 0)) * dgp (W m c) (R m c (rowOf t r)) (y 1)
abbrev part23 (y : S8x128.Idx) : EReal := half * ∑ r : Fin 256, rowLoss (W m c) (R m c (rowOf t r))
abbrev part24 (y : S1x1024.Idx) : EReal := ∑ r : Fin 256, dout (W m c) (R m c (rowOf t r)) (y 1) * hn (W m c) (R m c (rowOf t r)) (y 1)
abbrev part25 (y : S1x512.Idx) : EReal := ∑ r : Fin 256, dgp (W m c) (R m c (rowOf t r)) (y 1)

theorem pay22 (acc : Vec Ideal S512x512 .f32) (y : S512x512.Idx) :
    k0_pay52 (F := Ideal) (k0_pay14 (tile m c t).y) (tile m c t).p230 acc y = acc y + part22 m c t y := by
  obtain ⟨k, j, rfl⟩ : ∃ (k j : Fin 512), y = ix2 k j := ⟨y 0, y 1, eq_ix2 y⟩
  exact ((tile m c t).ac_wg acc k j).trans (congrArg (acc (ix2 k j) + ·) (sum_tile m c t fun W R => gelu (R.y k) * dgp W R j))
theorem pay23 (acc : Vec Ideal S8x128 .f32) (y : S8x128.Idx) :
    k0_pay37 (F := Ideal) (tile m c t).p157 (tile m c t).tg acc y = acc y + part23 m c t y := by
  obtain ⟨k, j, rfl⟩ : ∃ (k : Fin 8) (j : Fin 128), y = ix2 k j := ⟨y 0, y 1, eq_ix2 y⟩
  exact ((tile m c t).ac_loss acc k j).trans (congrArg (acc (ix2 k j) + half * ·) (sum_tile m c t rowLoss))
theorem pay24 (acc : Vec Ideal S1x1024 .f32) (y : S1x1024.Idx) :
    k0_pay39 (F := Ideal) (tile m c t).p154 (tile m c t).p157 (tile m c t).tg acc y = acc y + part24 m c t y := by
  obtain ⟨k, j, rfl⟩ : ∃ (k : Fin 1) (j : Fin 1024), y = ix2 k j := ⟨y 0, y 1, eq_ix2 y⟩
  obtain rfl : k = 0 := Subsingleton.elim _ _
  exact ((tile m c t).ac_gf acc j).trans (congrArg (acc (ix2 0 j) + ·) (sum_tile m c t fun W R => dout W R j * hn W R j))
theorem pay25 (acc : Vec Ideal S1x512 .f32) (y : S1x512.Idx) :
    k0_pay53 (F := Ideal) (tile m c t).p229 acc y = acc y + part25 m c t y := by
  obtain ⟨k, j, rfl⟩ : ∃ (k : Fin 1) (j : Fin 512), y = ix2 k j := ⟨y 0, y 1, eq_ix2 y⟩
  obtain rfl : k = 0 := Subsingleton.elim _ _
  exact ((tile m c t).ac_bg acc j).trans (congrArg (acc (ix2 0 j) + ·) (sum_tile m c t fun W R => dgp W R j))

theorem A_22 (h0 : t.val % 16 = 0) (y : S512x512.Idx) : outA_22 m c t h0 y = 0 + part22 m c t y := by
  unfold outA_22 runA; frame_out
  refine (pay22 m c t _ y).trans (congrArg (· + _) ?_)
  rw [eq_ix2 y]; exact z6 _ _
theorem B_22 (h0 : ¬t.val % 16 = 0) (o : Outs Ideal) (y : S512x512.Idx) : outB_22 m c t h0 o y = o.2.2.2.2.2.2.2.1 y + part22 m c t y := by
  unfold outB_22 runB; frame_out; exact pay22 m c t _ y
theorem A_23 (h0 : t.val % 16 = 0) (y : S8x128.Idx) : outA_23 m c t h0 y = 0 + part23 m c t y := by
  unfold outA_23 runA; frame_out
  refine (pay23 m c t _ y).trans (congrArg (· + _) ?_)
  rw [eq_ix2 y]; exact z7 _ _
theorem B_23 (h0 : ¬t.val % 16 = 0) (o : Outs Ideal) (y : S8x128.Idx) : outB_23 m c t h0 o y = o.2.2.2.2.2.2.2.2.1 y + part23 m c t y := by
  unfold outB_23 runB; frame_out; exact pay23 m c t _ y
theorem A_24 (h0 : t.val % 16 = 0) (y : S1x1024.Idx) : outA_24 m c t h0 y = 0 + part24 m c t y := by
  unfold outA_24 runA; frame_out
  refine (pay24 m c t _ y).trans (congrArg (· + _) ?_)
  rw [eq_ix2 y]; exact z8 _ _
theorem B_24 (h0 : ¬t.val % 16 = 0) (o : Outs Ideal) (y : S1x1024.Idx) : outB_24 m c t h0 o y = o.2.2.2.2.2.2.2.2.2.1 y + part24 m c t y := by
  unfold outB_24 runB; frame_out; exact pay24 m c t _ y
theorem A_25 (h0 : t.val % 16 = 0) (y : S1x512.Idx) : outA_25 m c t h0 y = 0 + part25 m c t y := by
  unfold outA_25 runA; frame_out
  refine (pay25 m c t _ y).trans (congrArg (· + _) ?_)
  rw [eq_ix2 y]; exact z9 _ _
theorem B_25 (h0 : ¬t.val % 16 = 0) (o : Outs Ideal) (y : S1x512.Idx) : outB_25 m c t h0 o y = o.2.2.2.2.2.2.2.2.2.2.1 y + part25 m c t y := by
  unfold outB_25 runB; frame_out; exact pay25 m c t _ y

end Cert.MixCall

end
-- ==== Proof.MixAcc.lean ====
/- The two accumulators of the mixing call that a point stores in pieces: the output weights' gradient, in two halves of its
   rows, and the taps' gradient, in three rows. -/
module

public import proofs.«01_k».proof.Proof.MixOuts
public import Idealize.ShloMosaic.Lib.WritesUnit

@[expose] public section

set_option maxRecDepth 16384
set_option maxHeartbeats 1000000

noncomputable section

namespace Cert.MixCall

open Idealize.ShloMosaic Idealize.ShloMosaic.Pointwise Idealize.ShloMosaic.TcCoe
open Idealize.ShloMosaic.Pipeline (Dat Cfg Window)
open Cert.KernelIdeal Cert.KernelIdeal.Gen Cert.Mix Cert.MixTile Cert.MixFrame

/-! A list of stores of whole rows, read at one place. -/

theorem canon_hit {n d k o : ℕ} {e : EltTy} (inb : ∀ a, (![o, 0] : Fin 2 → ℕ) a + (![k, d] : Fin 2 → ℕ) a ≤ (⟨2, ![n, d]⟩ : Shape).size a)
    (w : (Rect.unit (s := ⟨2, ![n, d]⟩) ![o, 0] ![k, d] inb).shape.Idx → Elt Ideal e) (L : List (View.Piece (Elt Ideal) ⟨2, ![n, d]⟩ e))
    (i : Fin n) (j : Fin d) (x : Fin k) (hx : i.val = o + x.val) :
    View.canon (⟨Rect.unit (s := ⟨2, ![n, d]⟩) ![o, 0] ![k, d] inb, w⟩ :: L) (ix2 i j) = w (ix2 x j) := by
  have hy : (Rect.unit (s := ⟨2, ![n, d]⟩) ![o, 0] ![k, d] inb).emb (ix2 x j) = ix2 i j := funext fun a => Fin.ext <| by
    revert a
    refine Fin.forall_fin_two.mpr ⟨?_, ?_⟩
    · show o + 1 * x.val = i.val
      omega
    · show 0 + 1 * j.val = j.val
      omega
  rw [← hy]
  exact View.canon_cons_emb _ _ _ _

theorem canon_miss {n d k o : ℕ} {e : EltTy} (inb : ∀ a, (![o, 0] : Fin 2 → ℕ) a + (![k, d] : Fin 2 → ℕ) a ≤ (⟨2, ![n, d]⟩ : Shape).size a)
    (w : (Rect.unit (s := ⟨2, ![n, d]⟩) ![o, 0] ![k, d] inb).shape.Idx → Elt Ideal e) (L : List (View.Piece (Elt Ideal) ⟨2, ![n, d]⟩ e))
    (i : Fin n) (j : Fin d) (hx : i.val < o ∨ o + k ≤ i.val) :
    View.canon (⟨Rect.unit (s := ⟨2, ![n, d]⟩) ![o, 0] ![k, d] inb, w⟩ :: L) (ix2 i j) = View.canon L (ix2 i j) := by
  refine View.canon_cons_of_not_mem _ _ fun hm => ?_
  have h := (Rect.mem_set_unit (inb := inb)).mp hm 0
  have h1 : o ≤ i.val := h.1
  have h2 : i.val < o + k := h.2
  omega

/-- A load of rows `o …` of the stores `L`. -/
theorem load_at {n d k o : ℕ} {e : EltTy} {κ : Kind} {sp : Space} (v : View sig κ sp ⟨2, ![n, d]⟩ e) (L : List (View.Piece (Elt Ideal) ⟨2, ![n, d]⟩ e))
    (inb : ∀ a, (![o, 0] : Fin 2 → ℕ) a + (![k, d] : Fin 2 → ℕ) a ≤ (⟨2, ![n, d]⟩ : Shape).size a) (i : Fin n) (j : Fin d) (x : Fin k) (hx : i.val = o + x.val) :
    v.readCov L (Rect.unit (s := ⟨2, ![n, d]⟩) ![o, 0] ![k, d] inb).toLoadRect (ix2 x j) = View.canon L (ix2 i j) := by
  refine (congrFun (View.readCov_eq_canon' v L (Rect.unit (s := ⟨2, ![n, d]⟩) ![o, 0] ![k, d] inb).toLoadRect)
    (ix2 x j : (⟨2, ![k, d]⟩ : Shape).Idx)).trans (congrArg (View.canon L) (funext fun a => Fin.ext ?_))
  revert a
  refine Fin.forall_fin_two.mpr ⟨?_, ?_⟩
  · show o + 1 * x.val = i.val
    omega
  · show 0 + 1 * j.val = j.val
    omega

theorem ld_at {n d k o : ℕ} {e : EltTy} (X : (⟨2, ![n, d]⟩ : Shape).Idx → Elt Ideal e)
    (inb : ∀ a, (![o, 0] : Fin 2 → ℕ) a + (![k, d] : Fin 2 → ℕ) a ≤ (⟨2, ![n, d]⟩ : Shape).size a) (i : Fin n) (j : Fin d) (x : Fin k) (hx : i.val = o + x.val) :
    View.ld X (Rect.unit (s := ⟨2, ![n, d]⟩) ![o, 0] ![k, d] inb) (ix2 x j) = X (ix2 i j) :=
  View.ld_unit_apply_of X _ _ inb (ix2 x j) (ix2 i j) (Fin.forall_fin_two.mpr ⟨hx, (Nat.zero_add j.val).symm⟩)

variable (m : (ℓ : Loc nD τ sig) → Buf (Elt Ideal) ℓ) (c : Dev nD) (t : Fin cfg0.N)

/-! The output weights' gradient, in two halves of its rows. -/

abbrev part21 (y : S1024x1024.Idx) : EReal :=
  if h : (y 0).val < 512 then ∑ r : Fin 256, yssm (W m c) (R m c (rowOf t r)) ⟨(y 0).val, h⟩ * dh2 (W m c) (R m c (rowOf t r)) (y 1)
  else ∑ r : Fin 256, yconv (W m c) (R m c (rowOf t r)) ⟨(y 0).val - 512, by have := (y 0).isLt; change (y 0).val < 1024 at this; omega⟩ * dh2 (W m c) (R m c (rowOf t r)) (y 1)

theorem part21_lo (i j : Fin 1024) (h : i.val < 512) :
    part21 m c t (ix2 i j) = ∑ r : Fin 256, yssm (W m c) (R m c (rowOf t r)) ⟨i.val, h⟩ * dh2 (W m c) (R m c (rowOf t r)) j := by
  have h' : ((ix2 i j : S1024x1024.Idx) 0).val < 512 := h
  unfold part21
  exact dif_pos h'

theorem part21_hi (i j : Fin 1024) (k : Fin 512) (hi : i.val = 512 + k.val) :
    part21 m c t (ix2 i j) = ∑ r : Fin 256, yconv (W m c) (R m c (rowOf t r)) k * dh2 (W m c) (R m c (rowOf t r)) j := by
  have h' : ¬((ix2 i j : S1024x1024.Idx) 0).val < 512 := by show ¬i.val < 512; omega
  have e : k = ⟨i.val - 512, by omega⟩ := Fin.ext (by show k.val = i.val - 512; omega)
  rw [e]
  unfold part21
  exact dif_neg h'

theorem payS (acc : Vec Ideal S512x1024 .f32) (k : Fin 512) (i j : Fin 1024) (hi : i.val = k.val) :
    k0_pay43 (F := Ideal) (tile m c t).p136 (tile m c t).p197 acc (ix2 k j) = acc (ix2 k j) + part21 m c t (ix2 i j) := by
  refine ((tile m c t).ac_woS acc k j).trans (congrArg (acc (ix2 k j) + ·) ?_)
  refine (sum_tile m c t fun W R => yssm W R k * dh2 W R j).trans ?_
  obtain ⟨k, hk⟩ := k
  obtain rfl : i.val = k := hi
  exact (part21_lo m c t i j hk).symm

theorem payC (acc : Vec Ideal S512x1024 .f32) (k : Fin 512) (i j : Fin 1024) (hi : i.val = 512 + k.val) :
    k0_pay44 (F := Ideal) (tile m c t).p137 (tile m c t).p197 acc (ix2 k j) = acc (ix2 k j) + part21 m c t (ix2 i j) := by
  refine ((tile m c t).ac_woC acc k j).trans (congrArg (acc (ix2 k j) + ·) ?_)
  exact (sum_tile m c t fun W R => yconv W R k * dh2 W R j).trans (part21_hi m c t i j k hi).symm

theorem A_21 (h0 : t.val % 16 = 0) (y : S1024x1024.Idx) : outA_21 m c t h0 y = 0 + part21 m c t y := by
  obtain ⟨i, j, rfl⟩ : ∃ (i j : Fin 1024), y = ix2 i j := ⟨y 0, y 1, eq_ix2 y⟩
  unfold outA_21 runA; frame_out
  by_cases h : i.val < 512
  · refine (canon_miss _ _ _ i j (Or.inl h)).trans ((canon_hit _ _ _ i j ⟨i.val, h⟩ (Nat.zero_add _).symm).trans ?_)
    refine (payS m c t _ ⟨i.val, h⟩ i j rfl).trans (congrArg (· + _) ?_)
    exact (load_at _ _ _ i j ⟨i.val, h⟩ (Nat.zero_add _).symm).trans ((canon_hit _ _ _ i j i (Nat.zero_add _).symm).trans (z5 i j))
  · have hk : i.val = 512 + (⟨i.val - 512, by omega⟩ : Fin 512).val := by show i.val = 512 + (i.val - 512); omega
    refine (canon_hit _ _ _ i j ⟨i.val - 512, by omega⟩ hk).trans ?_
    refine (payC m c t _ _ i j hk).trans (congrArg (· + _) ?_)
    exact (load_at _ _ _ i j ⟨i.val - 512, by omega⟩ hk).trans ((canon_miss _ _ _ i j (Or.inr (by omega))).trans
      ((canon_hit _ _ _ i j i (Nat.zero_add _).symm).trans (z5 i j)))

theorem B_21 (h0 : ¬t.val % 16 = 0) (o : Outs Ideal) (y : S1024x1024.Idx) : outB_21 m c t h0 o y = o.2.2.2.2.2.2.1 y + part21 m c t y := by
  obtain ⟨i, j, rfl⟩ : ∃ (i j : Fin 1024), y = ix2 i j := ⟨y 0, y 1, eq_ix2 y⟩
  unfold outB_21 runB; frame_out
  by_cases h : i.val < 512
  · refine (canon_miss _ _ _ i j (Or.inl h)).trans ((canon_hit _ _ _ i j ⟨i.val, h⟩ (Nat.zero_add _).symm).trans ?_)
    refine (payS m c t _ ⟨i.val, h⟩ i j rfl).trans (congrArg (· + _) ?_)
    exact ld_at _ _ i j ⟨i.val, h⟩ (Nat.zero_add _).symm
  · have hk : i.val = 512 + (⟨i.val - 512, by omega⟩ : Fin 512).val := by show i.val = 512 + (i.val - 512); omega
    refine (canon_hit _ _ _ i j ⟨i.val - 512, by omega⟩ hk).trans ?_
    refine (payC m c t _ _ i j hk).trans (congrArg (· + _) ?_)
    exact ld_at _ _ i j ⟨i.val - 512, by omega⟩ hk

/-! The taps' gradient, in three rows; the other five rows stay zero. -/

abbrev part26 (y : S8x512.Idx) : EReal :=
  if (y 0).val = 0 then ∑ r : Fin 256, dyc (W m c) (R m c (rowOf t r)) (y 1) * (R m c (rowOf t r)).v2 (y 1)
  else if (y 0).val = 1 then ∑ r : Fin 256, dyc (W m c) (R m c (rowOf t r)) (y 1) * (R m c (rowOf t r)).v1 (y 1)
  else if (y 0).val = 2 then ∑ r : Fin 256, dyc (W m c) (R m c (rowOf t r)) (y 1) * (R m c (rowOf t r)).v (y 1)
  else 0

theorem pay0 (acc : Vec Ideal S1x512 .f32) (a : Fin 8) (ha : a.val = 0) (j : Fin 512) :
    k0_pay2 (F := Ideal) (tile m c t).p107 (tile m c t).p259 acc (ix2 0 j) = acc (ix2 0 j) + part26 m c t (ix2 a j) := by
  refine ((tile m c t).ac_w0 acc j).trans (congrArg (acc (ix2 0 j) + ·) ?_)
  exact (sum_tile m c t fun W R => dyc W R j * R.v2 j).trans (if_pos ha).symm
theorem pay1 (acc : Vec Ideal S1x512 .f32) (a : Fin 8) (ha : a.val = 1) (j : Fin 512) :
    k0_pay3 (F := Ideal) (tile m c t).p93 (tile m c t).p259 acc (ix2 0 j) = acc (ix2 0 j) + part26 m c t (ix2 a j) := by
  refine ((tile m c t).ac_w1 acc j).trans (congrArg (acc (ix2 0 j) + ·) ?_)
  exact (sum_tile m c t fun W R => dyc W R j * R.v1 j).trans ((if_neg (by show ¬a.val = 0; omega)).trans (if_pos ha)).symm
theorem pay2 (acc : Vec Ideal S1x512 .f32) (a : Fin 8) (ha : a.val = 2) (j : Fin 512) :
    k0_pay4 (F := Ideal) (tile m c t).p69 (tile m c t).p259 acc (ix2 0 j) = acc (ix2 0 j) + part26 m c t (ix2 a j) := by
  refine ((tile m c t).ac_w2 acc j).trans (congrArg (acc (ix2 0 j) + ·) ?_)
  exact (sum_tile m c t fun W R => dyc W R j * R.v j).trans
    ((if_neg (by show ¬a.val = 0; omega)).trans ((if_neg (by show ¬a.val = 1; omega)).trans (if_pos ha))).symm
theorem part26_rest (a : Fin 8) (ha : 3 ≤ a.val) (j : Fin 512) : part26 m c t (ix2 a j) = 0 :=
  (if_neg (by show ¬a.val = 0; omega)).trans ((if_neg (by show ¬a.val = 1; omega)).trans (if_neg (by show ¬a.val = 2; omega)))

theorem A_26 (h0 : t.val % 16 = 0) (y : S8x512.Idx) : outA_26 m c t h0 y = 0 + part26 m c t y := by
  obtain ⟨a, j, rfl⟩ : ∃ (a : Fin 8) (j : Fin 512), y = ix2 a j := ⟨y 0, y 1, eq_ix2 y⟩
  unfold outA_26 runA; frame_out
  by_cases a2 : a.val = 2
  · refine (canon_hit _ _ _ a j (0 : Fin 1) a2).trans ((pay2 m c t _ a a2 j).trans (congrArg (· + _) ?_))
    exact (load_at _ _ _ a j (0 : Fin 1) a2).trans ((canon_miss _ _ _ a j (Or.inr (by omega))).trans
      ((canon_miss _ _ _ a j (Or.inr (by omega))).trans ((canon_hit _ _ _ a j a (Nat.zero_add _).symm).trans (z10 a j))))
  refine (canon_miss _ _ _ a j (by omega)).trans ?_
  by_cases a1 : a.val = 1
  · refine (canon_hit _ _ _ a j (0 : Fin 1) a1).trans ((pay1 m c t _ a a1 j).trans (congrArg (· + _) ?_))
    exact (load_at _ _ _ a j (0 : Fin 1) a1).trans ((canon_miss _ _ _ a j (Or.inr (by omega))).trans
      ((canon_hit _ _ _ a j a (Nat.zero_add _).symm).trans (z10 a j)))
  refine (canon_miss _ _ _ a j (by omega)).trans ?_
  by_cases a0 : a.val = 0
  · refine (canon_hit _ _ _ a j (0 : Fin 1) a0).trans ((pay0 m c t _ a a0 j).trans (congrArg (· + _) ?_))
    exact (load_at _ _ _ a j (0 : Fin 1) a0).trans ((canon_hit _ _ _ a j a (Nat.zero_add _).symm).trans (z10 a j))
  refine (canon_miss _ _ _ a j (by omega)).trans ((canon_hit _ _ _ a j a (Nat.zero_add _).symm).trans ((z10 a j).trans ?_))
  rw [part26_rest m c t a (by omega) j, zero_add]

/-- A store of one row into a buffer, read at that row; -/
theorem put_hit {o : ℕ} {κ : Kind} {sp : Space} (v : View sig κ sp S8x512 .f32) (f : v.ty.Contents (Elt Ideal))
    (inb : ∀ a, (![o, 0] : Fin 2 → ℕ) a + (![1, 512] : Fin 2 → ℕ) a ≤ S8x512.size a)
    (w : (Rect.unit (s := S8x512) ![o, 0] ![1, 512] inb).shape.Idx → Elt Ideal .f32) (L : List (View.Piece (Elt Ideal) S8x512 .f32))
    (a : Fin 8) (j : Fin 512) (ha : a.val = o) :
    v.read (Elt Ideal) (v.writes (Elt Ideal) f (⟨Rect.unit (s := S8x512) ![o, 0] ![1, 512] inb, w⟩ :: L)) (ix2 a j) = w (ix2 (0 : Fin 1) j) :=
  View.read_writes_cons_unit_of_mem v f inb w L (ix2 a j) (ix2 (0 : Fin 1) j) rfl (Fin.forall_fin_two.mpr ⟨ha, (Nat.zero_add j.val).symm⟩)

/-- and at another. -/
theorem put_miss {o : ℕ} {κ : Kind} {sp : Space} (v : View sig κ sp S8x512 .f32) (f : v.ty.Contents (Elt Ideal))
    (inb : ∀ a, (![o, 0] : Fin 2 → ℕ) a + (![1, 512] : Fin 2 → ℕ) a ≤ S8x512.size a)
    (w : (Rect.unit (s := S8x512) ![o, 0] ![1, 512] inb).shape.Idx → Elt Ideal .f32) (L : List (View.Piece (Elt Ideal) S8x512 .f32))
    (a : Fin 8) (j : Fin 512) (ha : a.val < o ∨ o + 1 ≤ a.val) :
    v.read (Elt Ideal) (v.writes (Elt Ideal) f (⟨Rect.unit (s := S8x512) ![o, 0] ![1, 512] inb, w⟩ :: L)) (ix2 a j)
      = v.read (Elt Ideal) (v.writes (Elt Ideal) f L) (ix2 a j) :=
  View.read_writes_cons_unit_of_not_mem v f inb w L (ix2 a j) rfl 0 ha

theorem B_26 (h0 : ¬t.val % 16 = 0) (o : Outs Ideal) (y : S8x512.Idx) : outB_26 m c t h0 o y = o.2.2.2.2.2.2.2.2.2.2.2 y + part26 m c t y := by
  obtain ⟨a, j, rfl⟩ : ∃ (a : Fin 8) (j : Fin 512), y = ix2 a j := ⟨y 0, y 1, eq_ix2 y⟩
  unfold outB_26 runB; frame_out
  by_cases a2 : a.val = 2
  · refine (put_hit _ _ _ _ _ a j a2).trans ((pay2 m c t _ a a2 j).trans (congrArg (· + _) ?_))
    exact ld_at _ _ a j (0 : Fin 1) a2
  refine (put_miss _ _ _ _ _ a j (by omega)).trans ?_
  by_cases a1 : a.val = 1
  · refine (put_hit _ _ _ _ _ a j a1).trans ((pay1 m c t _ a a1 j).trans (congrArg (· + _) ?_))
    exact ld_at _ _ a j (0 : Fin 1) a1
  refine (put_miss _ _ _ _ _ a j (by omega)).trans ?_
  by_cases a0 : a.val = 0
  · refine (put_hit _ _ _ _ _ a j a0).trans ((pay0 m c t _ a a0 j).trans (congrArg (· + _) ?_))
    exact ld_at _ _ a j (0 : Fin 1) a0
  refine (put_miss _ _ _ _ _ a j (by omega)).trans ?_
  rw [part26_rest m c t a (by omega) j, add_zero]
  exact congrFun ((hs0_26 t).read_unread _) _

end Cert.MixCall

end
-- ==== Proof.Mix.lean ====
/- The mixing call: what its kernel leaves in its twelve results is the reference's. -/
module

public import proofs.«01_k».proof.Proof.MixAcc
public import proofs.«01_k».proof.Proof.Alg

@[expose] public section

set_option maxRecDepth 16384

noncomputable section

namespace Cert.MixCall

open Idealize.ShloMosaic Idealize.ShloMosaic.Pointwise Idealize.ShloMosaic.TcCoe
open Idealize.ShloMosaic.Pipeline (Dat Cfg Window)
open Cert.KernelIdeal Cert.KernelIdeal.Gen Cert.Mix Cert.MixTile Cert.MixFrame
open Cert.ReferenceIdeal.Read (val_main_v129 val_main_v165 val_main_v186 val_main_v187 val_main_v188 val_main_v138 val_main_v131 val_main_v149
  val_main_v189 val_main_v113 val_main_v147 val_main_v191)

variable (m : (ℓ : Loc nD τ sig) → Buf (Elt Ideal) ℓ) (c : Dev nD) (t : Fin cfg0.N)

abbrev R129 := val_main_v129 (F := Ideal) (X0 m c) (X1 m c) (X2 m c) (X3 m c) (X4 m c) (X5 m c) (X6 m c) (X7 m c) (X8 m c)
abbrev R165 := val_main_v165 (F := Ideal) (X0 m c) (X1 m c) (X2 m c) (X3 m c) (X4 m c) (X5 m c) (X6 m c) (X7 m c) (X8 m c)
abbrev R186 := val_main_v186 (F := Ideal) (X0 m c) (X1 m c) (X2 m c) (X3 m c) (X4 m c) (X5 m c) (X6 m c) (X7 m c) (X8 m c)
abbrev R187 := val_main_v187 (F := Ideal) (X0 m c) (X1 m c) (X2 m c) (X3 m c) (X4 m c) (X5 m c) (X6 m c) (X7 m c) (X8 m c)
abbrev R188 := val_main_v188 (F := Ideal) (X0 m c) (X1 m c) (X2 m c) (X3 m c) (X4 m c) (X5 m c) (X6 m c) (X7 m c) (X8 m c)
abbrev R138 := val_main_v138 (F := Ideal) (X0 m c) (X1 m c) (X2 m c) (X3 m c) (X4 m c) (X5 m c) (X6 m c) (X7 m c) (X8 m c)
abbrev R131 := val_main_v131 (F := Ideal) (X0 m c) (X1 m c) (X2 m c) (X3 m c) (X4 m c) (X5 m c) (X6 m c) (X7 m c) (X8 m c)
abbrev R149 := val_main_v149 (F := Ideal) (X0 m c) (X1 m c) (X2 m c) (X3 m c) (X4 m c) (X5 m c) (X6 m c) (X7 m c) (X8 m c)
abbrev R189 := val_main_v189 (F := Ideal) (X0 m c) (X1 m c) (X2 m c) (X3 m c) (X4 m c) (X5 m c) (X6 m c) (X7 m c) (X8 m c)
abbrev R113 := val_main_v113 (F := Ideal) (X0 m c) (X1 m c) (X2 m c) (X3 m c) (X4 m c) (X5 m c) (X6 m c) (X7 m c) (X8 m c)
abbrev R147 := val_main_v147 (F := Ideal) (X0 m c) (X1 m c) (X2 m c) (X3 m c) (X4 m c) (X5 m c) (X6 m c) (X7 m c) (X8 m c)
abbrev R191 := val_main_v191 (F := Ideal) (X0 m c) (X1 m c) (X2 m c) (X3 m c) (X4 m c) (X5 m c) (X6 m c) (X7 m c) (X8 m c)

/-- A row function of the tile, in the arguments. -/
theorem of_tile (f : Wts → Row → EReal) (r : Fin 256) (i : Fin 4096) (hi : i.val = 256 * t.val + r.val) :
    f (tile m c t).wts ((tile m c t).row r) = f (W m c) (R m c i) := by
  rw [wts_eq, row_eq m c t r i hi]

/-- Row `r` of the block at point `t`. -/
abbrev rowAt (r : Fin 256) : Fin 4096 := ⟨256 * t.val + r.val, by have := ht16 t; omega⟩

theorem final_15 : (dats m 0 c).arrAt 15 (cfgs 0).N = R129 m c := by
  refine (dats m 0 c).arrAt_eq_of_covers 15 _ (by decide +kernel) fun t hf y => ?_
  blk_simp
  rw [after0_15, at_15]
  obtain ⟨r, j, rfl⟩ : ∃ (r : Fin 256) (j : Fin 1024), y = ix2 r j := ⟨y 0, y 1, eq_ix2 y⟩
  refine ((tile m c t).st_dh2 r j).trans ((of_tile m c t (fun W R => dh2 W R j) r (rowAt t r) rfl).trans ?_)
  refine (Ref1.dh2_at (X0 m c) (X1 m c) (X2 m c) (X3 m c) (X4 m c) (X5 m c) (X6 m c) (X7 m c) (X8 m c) (rowAt t r) j).symm.trans ?_
  blk_ext [idxO t]

theorem final_16 (hW : (W m c).Real) (hR : ∀ i, (R m c i).Real) : (dats m 0 c).arrAt 16 (cfgs 0).N = R165 m c := by
  refine (dats m 0 c).arrAt_eq_of_covers 16 _ (by decide +kernel) fun t hf y => ?_
  blk_simp
  rw [after0_16, at_16]
  obtain ⟨r, j, rfl⟩ : ∃ (r : Fin 256) (j : Fin 512), y = ix2 r j := ⟨y 0, y 1, eq_ix2 y⟩
  refine ((tile m c t).st_dy r j).trans ((of_tile m c t (fun W R => dy W R j) r (rowAt t r) rfl).trans ?_)
  refine (Ref1.dy_at hW (rowAt t r) (hR _) j).symm.trans ?_
  blk_ext [idxO t]

theorem final_17 (hW : (W m c).Real) (hR : ∀ i, (R m c i).Real) : (dats m 0 c).arrAt 17 (cfgs 0).N = R186 m c := by
  refine (dats m 0 c).arrAt_eq_of_covers 17 _ (by decide +kernel) fun t hf y => ?_
  blk_simp
  rw [after0_17, at_17]
  obtain ⟨r, j, rfl⟩ : ∃ (r : Fin 256) (j : Fin 512), y = ix2 r j := ⟨y 0, y 1, eq_ix2 y⟩
  refine ((tile m c t).st_dzs r j).trans ((of_tile m c t (fun W R => dzs W R j) r (rowAt t r) rfl).trans ?_)
  refine (Ref1.dzs_at hW (rowAt t r) (hR _) j).symm.trans ?_
  blk_ext [idxO t]

theorem final_18 : (dats m 0 c).arrAt 18 (cfgs 0).N = R187 m c := by
  refine (dats m 0 c).arrAt_eq_of_covers 18 _ (by decide +kernel) fun t hf y => ?_
  blk_simp
  rw [after0_18, at_18]
  obtain ⟨r, j, rfl⟩ : ∃ (r : Fin 256) (j : Fin 512), y = ix2 r j := ⟨y 0, y 1, eq_ix2 y⟩
  refine ((tile m c t).st_dbc r j).trans ((of_tile m c t (fun W R => dbc W R j) r (rowAt t r) rfl).trans ?_)
  refine (Ref1.dbc_at (X0 m c) (X1 m c) (X2 m c) (X3 m c) (X4 m c) (X5 m c) (X6 m c) (X7 m c) (X8 m c) (rowAt t r) j).symm.trans ?_
  blk_ext [idxO t]

theorem final_19 (hW : (W m c).Real) (hR : ∀ i, (R m c i).Real) : (dats m 0 c).arrAt 19 (cfgs 0).N = R188 m c := by
  refine (dats m 0 c).arrAt_eq_of_covers 19 _ (by decide +kernel) fun t hf y => ?_
  blk_simp
  rw [after0_19, at_19]
  obtain ⟨r, j, rfl⟩ : ∃ (r : Fin 256) (j : Fin 512), y = ix2 r j := ⟨y 0, y 1, eq_ix2 y⟩
  refine ((tile m c t).st_dzc r j).trans ((of_tile m c t (fun W R => dzc W R j) r (rowAt t r) rfl).trans ?_)
  refine (Ref1.dzc_at hW (rowAt t r) (hR _) j).symm.trans ?_
  blk_ext [idxO t]

theorem final_20 : (dats m 0 c).arrAt 20 (cfgs 0).N = R138 m c := by
  refine (dats m 0 c).arrAt_eq_of_covers 20 _ (by decide +kernel) fun t hf y => ?_
  blk_simp
  rw [after0_20, at_20]
  obtain ⟨r, j, rfl⟩ : ∃ (r : Fin 256) (j : Fin 512), y = ix2 r j := ⟨y 0, y 1, eq_ix2 y⟩
  refine ((tile m c t).st_dyc r j).trans ((of_tile m c t (fun W R => dyc W R j) r (rowAt t r) rfl).trans ?_)
  refine (Ref1.dyc_at (X0 m c) (X1 m c) (X2 m c) (X3 m c) (X4 m c) (X5 m c) (X6 m c) (X7 m c) (X8 m c) (rowAt t r) j).symm.trans ?_
  blk_ext [idxO t]

theorem ref_22 (y : S512x512.Idx) : ∑ t, part22 m c t y = R149 m c y := by
  obtain ⟨k, j, rfl⟩ : ∃ (k j : Fin 512), y = ix2 k j := ⟨y 0, y 1, eq_ix2 y⟩
  exact (sum_rows fun i => gelu ((R m c i).y k) * dgp (W m c) (R m c i) j).trans
    (Ref1.dwg_at (X0 m c) (X1 m c) (X2 m c) (X3 m c) (X4 m c) (X5 m c) (X6 m c) (X7 m c) (X8 m c) k j).symm

theorem ref_23 (y : S8x128.Idx) : ∑ t, part23 m c t y = R189 m c y := by
  obtain ⟨a, b, rfl⟩ : ∃ (a : Fin 8) (b : Fin 128), y = ix2 a b := ⟨y 0, y 1, eq_ix2 y⟩
  refine Eq.trans ?_ (Ref1.loss_at (X0 m c) (X1 m c) (X2 m c) (X3 m c) (X4 m c) (X5 m c) (X6 m c) (X7 m c) (X8 m c) a b).symm
  have hh : half = ((1 / 2 : ℝ) : EReal) := Alg.ofBits_half
  have e : ∀ x : EReal, half * x = x * ((1 / 2 : ℝ) : EReal) := fun x => by rw [hh, mul_comm]
  show ∑ t : Fin cfg0.N, half * ∑ r : Fin 256, rowLoss (W m c) (R m c (rowOf t r)) = _
  simp only [e]
  rw [← Alg.sum_mul_coe _ _ _ (by norm_num)]
  exact congrArg (· * _) (sum_rows fun i => rowLoss (W m c) (R m c i))

theorem ref_24 (y : S1x1024.Idx) : ∑ t, part24 m c t y = R113 m c y := by
  obtain ⟨u, j, rfl⟩ : ∃ (u : Fin 1) (j : Fin 1024), y = ix2 u j := ⟨y 0, y 1, eq_ix2 y⟩
  exact (sum_rows fun i => dout (W m c) (R m c i) j * hn (W m c) (R m c i) j).trans
    (Ref1.dgain_at (X0 m c) (X1 m c) (X2 m c) (X3 m c) (X4 m c) (X5 m c) (X6 m c) (X7 m c) (X8 m c) u j).symm

theorem ref_25 (y : S1x512.Idx) : ∑ t, part25 m c t y = R147 m c y := by
  obtain ⟨u, j, rfl⟩ : ∃ (u : Fin 1) (j : Fin 512), y = ix2 u j := ⟨y 0, y 1, eq_ix2 y⟩
  exact (sum_rows fun i => dgp (W m c) (R m c i) j).trans
    (Ref1.dbg_at (X0 m c) (X1 m c) (X2 m c) (X3 m c) (X4 m c) (X5 m c) (X6 m c) (X7 m c) (X8 m c) u j).symm

theorem ref_21 (y : S1024x1024.Idx) : ∑ t, part21 m c t y = R131 m c y := by
  obtain ⟨i, j, rfl⟩ : ∃ (i j : Fin 1024), y = ix2 i j := ⟨y 0, y 1, eq_ix2 y⟩
  by_cases h : i.val < 512
  · refine (Finset.sum_congr rfl fun t _ => (dif_pos h : part21 m c t (ix2 i j) = _)).trans ?_
    exact (sum_rows fun n => yssm (W m c) (R m c n) ⟨i.val, h⟩ * dh2 (W m c) (R m c n) j).trans
      (Ref1.dwoS_at (X0 m c) (X1 m c) (X2 m c) (X3 m c) (X4 m c) (X5 m c) (X6 m c) (X7 m c) (X8 m c) ⟨i.val, h⟩ i j rfl).symm
  · refine (Finset.sum_congr rfl fun t _ => (dif_neg h : part21 m c t (ix2 i j) = _)).trans ?_
    exact (sum_rows fun n => yconv (W m c) (R m c n) ⟨i.val - 512, by omega⟩ * dh2 (W m c) (R m c n) j).trans
      (Ref1.dwoC_at (X0 m c) (X1 m c) (X2 m c) (X3 m c) (X4 m c) (X5 m c) (X6 m c) (X7 m c) (X8 m c) ⟨i.val - 512, by omega⟩ i j
        (by show i.val = 512 + (i.val - 512); omega)).symm

theorem ref_26 (y : S8x512.Idx) : ∑ t, part26 m c t y = R191 m c y := by
  obtain ⟨a, j, rfl⟩ : ∃ (a : Fin 8) (j : Fin 512), y = ix2 a j := ⟨y 0, y 1, eq_ix2 y⟩
  by_cases a0 : a.val = 0
  · obtain rfl : a = 0 := Fin.ext a0
    exact (sum_rows fun i => dyc (W m c) (R m c i) j * (R m c i).v2 j).trans
      (Ref1.dcw0_at (X0 m c) (X1 m c) (X2 m c) (X3 m c) (X4 m c) (X5 m c) (X6 m c) (X7 m c) (X8 m c) j).symm
  by_cases a1 : a.val = 1
  · obtain rfl : a = 1 := Fin.ext a1
    exact (sum_rows fun i => dyc (W m c) (R m c i) j * (R m c i).v1 j).trans
      (Ref1.dcw1_at (X0 m c) (X1 m c) (X2 m c) (X3 m c) (X4 m c) (X5 m c) (X6 m c) (X7 m c) (X8 m c) j).symm
  by_cases a2 : a.val = 2
  · obtain rfl : a = 2 := Fin.ext a2
    exact (sum_rows fun i => dyc (W m c) (R m c i) j * (R m c i).v j).trans
      (Ref1.dcw2_at (X0 m c) (X1 m c) (X2 m c) (X3 m c) (X4 m c) (X5 m c) (X6 m c) (X7 m c) (X8 m c) j).symm
  · have ha : 3 ≤ a.val := by omega
    refine (Finset.sum_congr rfl fun t _ => part26_rest m c t a ha j).trans (Finset.sum_const_zero.trans ?_)
    exact (Ref1.dcw_rest (X0 m c) (X1 m c) (X2 m c) (X3 m c) (X4 m c) (X5 m c) (X6 m c) (X7 m c) (X8 m c) a ha j).symm

theorem last_21 (y : S1024x1024.Idx) : (outsAt0 m c t0_15.val t0_15.isLt).2.2.2.2.2.2.1 y = R131 m c y :=
  (acc_last m c (fun o => o.2.2.2.2.2.2.1) (part21 m c)
    (fun t h y => by unfold allA; dsimp only; exact A_21 m c t h y)
    (fun t h o y => by unfold allB; dsimp only; exact B_21 m c t h o y) y).trans (ref_21 m c y)

theorem final_21 : (dats m 0 c).arrAt 21 (cfgs 0).N = R131 m c := by
  refine (dats m 0 c).arrAt_eq_of_after_last 21 t0_15 (by decide +kernel) _ fun j => ?_
  blk_simp
  rw [after0_21]
  exact last_21 m c j

theorem last_22 (y : S512x512.Idx) : (outsAt0 m c t0_15.val t0_15.isLt).2.2.2.2.2.2.2.1 y = R149 m c y :=
  (acc_last m c (fun o => o.2.2.2.2.2.2.2.1) (part22 m c)
    (fun t h y => by unfold allA; dsimp only; exact A_22 m c t h y)
    (fun t h o y => by unfold allB; dsimp only; exact B_22 m c t h o y) y).trans (ref_22 m c y)

theorem final_22 : (dats m 0 c).arrAt 22 (cfgs 0).N = R149 m c := by
  refine (dats m 0 c).arrAt_eq_of_after_last 22 t0_15 (by decide +kernel) _ fun j => ?_
  blk_simp
  rw [after0_22]
  exact last_22 m c j

theorem last_23 (y : S8x128.Idx) : (outsAt0 m c t0_15.val t0_15.isLt).2.2.2.2.2.2.2.2.1 y = R189 m c y :=
  (acc_last m c (fun o => o.2.2.2.2.2.2.2.2.1) (part23 m c)
    (fun t h y => by unfold allA; dsimp only; exact A_23 m c t h y)
    (fun t h o y => by unfold allB; dsimp only; exact B_23 m c t h o y) y).trans (ref_23 m c y)

theorem final_23 : (dats m 0 c).arrAt 23 (cfgs 0).N = R189 m c := by
  refine (dats m 0 c).arrAt_eq_of_after_last 23 t0_15 (by decide +kernel) _ fun j => ?_
  blk_simp
  rw [after0_23]
  exact last_23 m c j

theorem last_24 (y : S1x1024.Idx) : (outsAt0 m c t0_15.val t0_15.isLt).2.2.2.2.2.2.2.2.2.1 y = R113 m c y :=
  (acc_last m c (fun o => o.2.2.2.2.2.2.2.2.2.1) (part24 m c)
    (fun t h y => by unfold allA; dsimp only; exact A_24 m c t h y)
    (fun t h o y => by unfold allB; dsimp only; exact B_24 m c t h o y) y).trans (ref_24 m c y)

theorem final_24 : (dats m 0 c).arrAt 24 (cfgs 0).N = R113 m c := by
  refine (dats m 0 c).arrAt_eq_of_after_last 24 t0_15 (by decide +kernel) _ fun j => ?_
  blk_simp
  rw [after0_24]
  exact last_24 m c j

theorem last_25 (y : S1x512.Idx) : (outsAt0 m c t0_15.val t0_15.isLt).2.2.2.2.2.2.2.2.2.2.1 y = R147 m c y :=
  (acc_last m c (fun o => o.2.2.2.2.2.2.2.2.2.2.1) (part25 m c)
    (fun t h y => by unfold allA; dsimp only; exact A_25 m c t h y)
    (fun t h o y => by unfold allB; dsimp only; exact B_25 m c t h o y) y).trans (ref_25 m c y)

theorem final_25 : (dats m 0 c).arrAt 25 (cfgs 0).N = R147 m c := by
  refine (dats m 0 c).arrAt_eq_of_after_last 25 t0_15 (by decide +kernel) _ fun j => ?_
  blk_simp
  rw [after0_25]
  exact last_25 m c j

theorem last_26 (y : S8x512.Idx) : (outsAt0 m c t0_15.val t0_15.isLt).2.2.2.2.2.2.2.2.2.2.2 y = R191 m c y :=
  (acc_last m c (fun o => o.2.2.2.2.2.2.2.2.2.2.2) (part26 m c)
    (fun t h y => by unfold allA; dsimp only; exact A_26 m c t h y)
    (fun t h o y => by unfold allB; dsimp only; exact B_26 m c t h o y) y).trans (ref_26 m c y)

theorem final_26 : (dats m 0 c).arrAt 26 (cfgs 0).N = R191 m c := by
  refine (dats m 0 c).arrAt_eq_of_after_last 26 t0_15 (by decide +kernel) _ fun j => ?_
  blk_simp
  rw [after0_26]
  exact last_26 m c j

end Cert.MixCall

end
-- ==== Proof.lean ====
module

public import proofs.«01_k».proof.Defs
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.InBwd
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.MixFrame
public import proofs.«01_k».proof.Proof.MixReal
public import proofs.«01_k».proof.Proof.Mix
public import Idealize.ShloMosaic.Lib.Claim
public import Idealize.ShloMosaic.Lib.Tactic
public import Idealize.ShloMosaic.Adequacy
public import Idealize.ShloMosaic.Init

@[expose] public section

set_option maxRecDepth 16384

noncomputable section

namespace Cert.Proof

open Idealize.ShloMosaic Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts

/-- The kernel of the input projection's backward, over the reals: every run ends with the arguments unchanged. -/
theorem frame_in_ideal : Cert.quiescent_Kernel2Ideal := fun m ρ _ => Cert.Kernel2Ideal.Gen.frame m ρ

/-- The program over floats and the one over the reals have the same text. -/
theorem same_in : Cert.Kernel2.defs (F := Bits) = Cert.Kernel2Ideal.defs (F := Bits) := by sl_kernel_rfl

/-- So the same run, over floats, gives the frame of the first. -/
theorem frame_in : Cert.quiescent_Kernel2 := by
  intro m ρ _
  rw [same_in]
  exact (θ_run Cert.Kernel2Ideal.defs _ _).mono (fun _ h => h) (Cert.Kernel2Ideal.Gen.frame (F := Bits) m ρ)

/-- Its reference: every run ends with the arguments unchanged, and it declares no semaphore. -/
theorem frame_in_reference : Cert.quiescent_Reference2Ideal := fun m ρ _ =>
  (θ_run Cert.Reference2Ideal.defs _ _).mono
    (fun r h => ⟨fun c => (h c).2.2.2, sem_eq_zero_of_no_sems (by decide) r.2⟩) (Cert.Reference2Ideal.Value.run m ρ)

/-- Kernel and reference of the input projection's backward leave the same three arrays. -/
theorem in_algebraic : Cert.algebraic_Kernel2Ideal_Reference2Ideal := by
  intro m g m' g' _ hagree
  refine ⟨fun c => Cert.InBwd.R95 m c, fun c => Cert.InBwd.R96 m c, fun c => Cert.InBwd.R97 m c, ?_, ?_⟩
  · exact (θ_run Cert.Kernel2Ideal.defs _ _).mono
      (fun r h c => ⟨(h c).1.trans (Cert.InBwd.final_11 m c), (h c).2.1.trans (Cert.InBwd.final_12 m c),
        (h c).2.2.1.trans (Cert.InBwd.final_13 m c), (h c).2.2.2⟩) (Cert.Kernel2Ideal.Value.run_blocks m g)
  · refine (θ_run Cert.Reference2Ideal.defs _ _).mono (fun r h c => ?_) (Cert.Reference2Ideal.Value.run m' g')
    obtain ⟨h95, h96, h97, hargs⟩ := h c
    obtain ⟨a0, a1, a2, a3, a4, a5, a6, a7, a8, a9, a10⟩ := hagree c
    refine ⟨(h95.trans (Cert.Reference2Ideal.Read.val_main_v95_eq m' c)).trans ?_,
      (h96.trans (Cert.Reference2Ideal.Read.val_main_v96_eq m' c)).trans ?_,
      (h97.trans (Cert.Reference2Ideal.Read.val_main_v97_eq m' c)).trans ?_, hargs⟩
    · rw [a0, a1, a2, a3, a4, a5, a6, a7, a8, a9, a10]
    · rw [a2, a3, a4, a5, a6, a7, a9]
    · rw [a0, a2, a3, a4, a5, a6, a7, a9, a10]

instance : Cert.Kernel.Facts := Cert.Kernel.Gen.facts
instance : Cert.KernelIdeal.Facts := Cert.KernelIdeal.Gen.facts
instance : Cert.ReferenceIdeal.Facts := Cert.ReferenceIdeal.Gen.facts

/-- The shapes the precondition names. -/
theorem finite_facts : Cert.Pre_finite.Facts where
  bcast_S_S4096x1024 := by decide
  bcast_S_S4096x512 := by decide
  bcast_S_S4096x3072 := by decide
  bcast_S_S1x1024 := by decide
  bcast_S_S1x512 := by decide
  bcast_S_S8x512 := by decide
  bitsLt_bf16_f32 := by decide
  bcast_S_S512x512 := by decide
  bcast_S_S1024x1024 := by decide

instance : Cert.Pre_finite.Facts := finite_facts

/-- The mixing kernel's backward, over the reals: every run ends with the arguments unchanged. -/
theorem frame_mix_ideal : Cert.quiescent_KernelIdeal := fun m ρ _ => Cert.MixFrame.frame m ρ

/-- The same on finite arguments. -/
theorem frame_mix_finite : Cert.quiescent_KernelIdeal_pre_finite := fun m ρ _ => Cert.MixFrame.frame m ρ

/-- Over floats a named constant is the word it is written as. -/
instance namedBits : Named Bits where
  named _ _ {φ} bits := Scalar.ofBits φ bits

/-- Read so, the program over floats and the one over the reals have the same text. -/
theorem same_mix : Cert.Kernel.defs (F := Bits) = Cert.KernelIdeal.defs (F := Bits) := by sl_kernel_rfl

/-- So the same run, over floats, gives the frame of the first. -/
theorem frame_mix : Cert.quiescent_Kernel := by
  intro m ρ _
  rw [same_mix]
  exact (θ_run Cert.KernelIdeal.defs _ _).mono (fun _ h => h) (Cert.MixFrame.frame (F := Bits) m ρ)

/-- Its reference: every run ends with the arguments unchanged, and it declares no semaphore. -/
theorem frame_mix_reference : Cert.quiescent_ReferenceIdeal := fun m ρ _ =>
  (θ_run Cert.ReferenceIdeal.defs _ _).mono
    (fun r h => ⟨fun c => (h c).2.2.2.2.2.2.2.2.2.2.2.2, sem_eq_zero_of_no_sems (by decide) r.2⟩)
    (Cert.ReferenceIdeal.Value.run m ρ)

/-- The same on finite arguments. -/
theorem frame_mix_reference_finite : Cert.quiescent_ReferenceIdeal_pre_finite := fun m ρ _ =>
  frame_mix_reference m ρ trivial

/-- The two words are the floats nearest the two named constants' values. -/
theorem mix_preserves : Cert.preserves_Kernel_KernelIdeal :=
  ⟨IdealRules.named_const.statement Cert.KernelIdeal.κ "gelu_cubic" .f32 0x3D372713#32 ((8943 / 200000 : ℝ) : EReal) rfl,
    IdealRules.named_const.statement Cert.KernelIdeal.κ "gelu_cubic_slope" .f32 0x3E095D4F#32 ((26829 / 200000 : ℝ) : EReal)
      rfl⟩

/-- On finite arguments, kernel and reference of the mixing kernel's backward leave the same twelve arrays. -/
theorem mix_algebraic : Cert.algebraic_KernelIdeal_ReferenceIdeal_pre_finite := by
  intro m g m' g' hpre hagree
  have hW : ∀ c, (Cert.MixCall.W m c).Real := fun c => by
    obtain ⟨_, _, _, _, h4, h5, h6, h7, h8⟩ := hpre c
    exact Cert.MixReal.wts_real _ _ _ _ _ (Cert.MixReal.r4 _ _ _ _ _ _ _ _ _ h4)
      (Cert.MixReal.r5 _ _ _ _ _ _ _ _ _ h5) (Cert.MixReal.r6 _ _ _ _ _ _ _ _ _ h6)
      (Cert.MixReal.r7 _ _ _ _ _ _ _ _ _ h7) (Cert.MixReal.r8 _ _ _ _ _ _ _ _ _ h8)
  have hR : ∀ c i, (Cert.MixCall.R m c i).Real := fun c i => by
    obtain ⟨h0, h1, h2, h3, _⟩ := hpre c
    exact Cert.MixReal.row_real _ _ _ _ (Cert.MixReal.r0 _ _ _ _ _ _ _ _ _ h0)
      (Cert.MixReal.r1 _ _ _ _ _ _ _ _ _ h1) (Cert.MixReal.r2 _ _ _ _ _ _ _ _ _ h2)
      (Cert.MixReal.r3 _ _ _ _ _ _ _ _ _ h3) i
  refine ⟨fun c => Cert.MixCall.R129 m c, fun c => Cert.MixCall.R165 m c, fun c => Cert.MixCall.R186 m c,
    fun c => Cert.MixCall.R187 m c, fun c => Cert.MixCall.R188 m c, fun c => Cert.MixCall.R138 m c,
    fun c => Cert.MixCall.R131 m c, fun c => Cert.MixCall.R149 m c, fun c => Cert.MixCall.R189 m c,
    fun c => Cert.MixCall.R113 m c, fun c => Cert.MixCall.R147 m c, fun c => Cert.MixCall.R191 m c, ?_, ?_⟩
  · exact (θ_run Cert.KernelIdeal.defs _ _).mono
      (fun r h c => ⟨((h.2 c).1 15).trans (Cert.MixCall.final_15 m c),
        ((h.2 c).1 16).trans (Cert.MixCall.final_16 m c (hW c) (hR c)),
        ((h.2 c).1 17).trans (Cert.MixCall.final_17 m c (hW c) (hR c)),
        ((h.2 c).1 18).trans (Cert.MixCall.final_18 m c),
        ((h.2 c).1 19).trans (Cert.MixCall.final_19 m c (hW c) (hR c)),
        ((h.2 c).1 20).trans (Cert.MixCall.final_20 m c), ((h.2 c).1 21).trans (Cert.MixCall.final_21 m c),
        ((h.2 c).1 22).trans (Cert.MixCall.final_22 m c), ((h.2 c).1 23).trans (Cert.MixCall.final_23 m c),
        ((h.2 c).1 24).trans (Cert.MixCall.final_24 m c), ((h.2 c).1 25).trans (Cert.MixCall.final_25 m c),
        ((h.2 c).1 26).trans (Cert.MixCall.final_26 m c), h.1 c⟩)
      (θ_run_and (Cert.MixFrame.unchanged m g) (Cert.MixFrame.run_main m g))
  · refine (θ_run Cert.ReferenceIdeal.defs _ _).mono (fun r h c => ?_) (Cert.ReferenceIdeal.Value.run m' g')
    obtain ⟨h129, h165, h186, h187, h188, h138, h131, h149, h189, h113, h147, h191, hargs⟩ := h c
    obtain ⟨a0, a1, a2, a3, a4, a5, a6, a7, a8⟩ := hagree c
    have e0 : StableHlo.launchContents m' c (Proc.devRef .tc Cert.ReferenceIdeal.main_arg0) = Cert.MixCall.X0 m c := a0
    have e1 : StableHlo.launchContents m' c (Proc.devRef .tc Cert.ReferenceIdeal.main_arg1) = Cert.MixCall.X1 m c := a1
    have e2 : StableHlo.launchContents m' c (Proc.devRef .tc Cert.ReferenceIdeal.main_arg2) = Cert.MixCall.X2 m c := a2
    have e3 : StableHlo.launchContents m' c (Proc.devRef .tc Cert.ReferenceIdeal.main_arg3) = Cert.MixCall.X3 m c := a3
    have e4 : StableHlo.launchContents m' c (Proc.devRef .tc Cert.ReferenceIdeal.main_arg4) = Cert.MixCall.X4 m c := a4
    have e5 : StableHlo.launchContents m' c (Proc.devRef .tc Cert.ReferenceIdeal.main_arg5) = Cert.MixCall.X5 m c := a5
    have e6 : StableHlo.launchContents m' c (Proc.devRef .tc Cert.ReferenceIdeal.main_arg6) = Cert.MixCall.X6 m c := a6
    have e7 : StableHlo.launchContents m' c (Proc.devRef .tc Cert.ReferenceIdeal.main_arg7) = Cert.MixCall.X7 m c := a7
    have e8 : StableHlo.launchContents m' c (Proc.devRef .tc Cert.ReferenceIdeal.main_arg8) = Cert.MixCall.X8 m c := a8
    refine ⟨(h129.trans (Cert.ReferenceIdeal.Read.val_main_v129_eq (StableHlo.launchContents m' c))).trans ?_,
      (h165.trans (Cert.ReferenceIdeal.Read.val_main_v165_eq (StableHlo.launchContents m' c))).trans ?_,
      (h186.trans (Cert.ReferenceIdeal.Read.val_main_v186_eq (StableHlo.launchContents m' c))).trans ?_,
      (h187.trans (Cert.ReferenceIdeal.Read.val_main_v187_eq (StableHlo.launchContents m' c))).trans ?_,
      (h188.trans (Cert.ReferenceIdeal.Read.val_main_v188_eq (StableHlo.launchContents m' c))).trans ?_,
      (h138.trans (Cert.ReferenceIdeal.Read.val_main_v138_eq (StableHlo.launchContents m' c))).trans ?_,
      (h131.trans (Cert.ReferenceIdeal.Read.val_main_v131_eq (StableHlo.launchContents m' c))).trans ?_,
      (h149.trans (Cert.ReferenceIdeal.Read.val_main_v149_eq (StableHlo.launchContents m' c))).trans ?_,
      (h189.trans (Cert.ReferenceIdeal.Read.val_main_v189_eq (StableHlo.launchContents m' c))).trans ?_,
      (h113.trans (Cert.ReferenceIdeal.Read.val_main_v113_eq (StableHlo.launchContents m' c))).trans ?_,
      (h147.trans (Cert.ReferenceIdeal.Read.val_main_v147_eq (StableHlo.launchContents m' c))).trans ?_,
      (h191.trans (Cert.ReferenceIdeal.Read.val_main_v191_eq (StableHlo.launchContents m' c))).trans ?_,
      hargs⟩
    all_goals rw [e0, e1, e2, e3, e4, e5, e6, e7, e8]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, finite_facts, frame_mix, frame_mix_ideal,
    frame_mix_finite, frame_mix_reference, frame_mix_reference_finite, frame_in, frame_in_ideal, frame_in_reference,
    mix_preserves, mix_algebraic, trivial, in_algebraic⟩

end Cert.Proof

end
